-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_logits_and_classes [hPre_real_logits_and_classes : Cert.Pre_real_logits_and_classes.Facts] (m : (ℓ : Loc Cert.KernelIdeal.nD Cert.KernelIdeal.τ Cert.KernelIdeal.sig) → Buf (Elt Ideal) ℓ) : Prop :=
  ∀ c : Dev Cert.KernelIdeal.nD,
    (Cert.Pre_real_logits_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_real_logits_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_real_logits_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_logits_and_classes [hPre_real_logits_and_classes : Cert.Pre_real_logits_and_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_logits_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_real_logits_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_real_logits_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_real_logits_and_classes [hKernelIdeal : Cert.KernelIdeal.Facts] [hPre_real_logits_and_classes : Cert.Pre_real_logits_and_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_logits_and_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_real_logits_and_classes [hReferenceIdeal : Cert.ReferenceIdeal.Facts] [hPre_real_logits_and_classes : Cert.Pre_real_logits_and_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_logits_and_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "third" .f32 0x3EAAAAAB#32 ((3⁻¹ : ℝ) : EReal)
  ∧ IdealRules.named_const.Statement Cert.KernelIdeal.κ "fifth" .f32 0x3E4CCCCD#32 ((5⁻¹ : ℝ) : EReal)

def algebraic_KernelIdeal_ReferenceIdeal_pre_real_logits_and_classes [hKernelIdeal : Cert.KernelIdeal.Facts] [hReferenceIdeal : Cert.ReferenceIdeal.Facts] [hPre_real_logits_and_classes : Cert.Pre_real_logits_and_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_logits_and_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_real_logits_and_classes : Cert.Pre_real_logits_and_classes.Facts),
    quiescent_Kernel (hKernel := hKernel)
    ∧ quiescent_KernelIdeal (hKernelIdeal := hKernelIdeal)
    ∧ quiescent_KernelIdeal_pre_real_logits_and_classes (hKernelIdeal := hKernelIdeal) (hPre_real_logits_and_classes := hPre_real_logits_and_classes)
    ∧ quiescent_ReferenceIdeal (hReferenceIdeal := hReferenceIdeal)
    ∧ quiescent_ReferenceIdeal_pre_real_logits_and_classes (hReferenceIdeal := hReferenceIdeal) (hPre_real_logits_and_classes := hPre_real_logits_and_classes)
    ∧ preserves_Kernel_KernelIdeal
    ∧ algebraic_KernelIdeal_ReferenceIdeal_pre_real_logits_and_classes (hKernelIdeal := hKernelIdeal) (hReferenceIdeal := hReferenceIdeal) (hPre_real_logits_and_classes := hPre_real_logits_and_classes)
-- ==== Pre_real_logits_and_classes.lean ====
abbrev S64x100 : Shape := ⟨2, ![64, 100]⟩
abbrev S64 : Shape := ⟨1, ![64]⟩
abbrev S_ : Shape := ⟨0, ![]⟩

class Facts : Prop where
  bcast_S_S64x100 : S_.BroadcastsInDim S64x100 (![] : Fin 0 → Fin S64x100.rank)
  bcast_S_S64 : S_.BroadcastsInDim S64 (![] : Fin 0 → Fin S64.rank)

variable [Facts]

def fn {F : FTy → Type} [FloatOps F] (main_arg0 : FVec F S64x100 .f32) (main_arg1 : FVec F S64x100 .f32) (main_arg2 : IVec S64 32) : IVec S64x100 1 × IVec S64x100 1 × IVec S64 1 :=
  let main_cst : FVec F S_ .f32 := constant S_ .f32 0xFF800000#32
  let main_v0 : FVec F S64x100 .f32 := broadcastInDim S64x100 ![] bcast_S_S64x100 main_cst
  let main_v1 : IVec S64x100 1 := cmpf .ogt main_arg0 main_v0
  let main_cst_0 : FVec F S_ .f32 := constant S_ .f32 0x7F800000#32
  let main_v2 : FVec F S64x100 .f32 := broadcastInDim S64x100 ![] bcast_S_S64x100 main_cst_0
  let main_v3 : IVec S64x100 1 := cmpf .olt main_arg0 main_v2
  let main_v4 : IVec S64x100 1 := andi main_v1 main_v3
  let main_cst_1 : FVec F S_ .f32 := constant S_ .f32 0xFF800000#32
  let main_v5 : FVec F S64x100 .f32 := broadcastInDim S64x100 ![] bcast_S_S64x100 main_cst_1
  let main_v6 : IVec S64x100 1 := cmpf .ogt main_arg1 main_v5
  let main_cst_2 : FVec F S_ .f32 := constant S_ .f32 0x7F800000#32
  let main_v7 : FVec F S64x100 .f32 := broadcastInDim S64x100 ![] bcast_S_S64x100 main_cst_2
  let main_v8 : IVec S64x100 1 := cmpf .olt main_arg1 main_v7
  let main_v9 : IVec S64x100 1 := andi main_v6 main_v8
  let main_c : IVec S_ 32 := constantI S_ 32 0#32
  let main_v10 : IVec S64 32 := broadcastInDim S64 ![] bcast_S_S64 main_c
  let main_v11 : IVec S64 1 := cmpi .sge main_arg2 main_v10
  let main_c_3 : IVec S_ 32 := constantI S_ 32 100#32
  let main_v12 : IVec S64 32 := broadcastInDim S64 ![] bcast_S_S64 main_c_3
  let main_v13 : IVec S64 1 := cmpi .slt main_arg2 main_v12
  let main_v14 : IVec S64 1 := andi main_v11 main_v13
  (main_v4, main_v9, main_v14)
-- ==== Kernel.lean ====
abbrev S64x100 : Shape := ⟨2, ![64, 100]⟩
abbrev S64 : Shape := ⟨1, ![64]⟩
abbrev S64x1 : Shape := ⟨2, ![64, 1]⟩
abbrev S1x1 : Shape := ⟨2, ![1, 1]⟩
abbrev S640x100 : Shape := ⟨2, ![640, 100]⟩
abbrev S1x64x100 : Shape := ⟨3, ![1, 64, 100]⟩
abbrev S1 : Shape := ⟨1, ![1]⟩
abbrev S1x1x1 : Shape := ⟨3, ![1, 1, 1]⟩
abbrev S64x64 : Shape := ⟨2, ![64, 64]⟩
abbrev S100x100 : Shape := ⟨2, ![100, 100]⟩
abbrev S1x64x64 : Shape := ⟨3, ![1, 64, 64]⟩
abbrev S1x100x100 : Shape := ⟨3, ![1, 100, 100]⟩
abbrev S500x128 : Shape := ⟨2, ![500, 128]⟩
abbrev S8x128 : Shape := ⟨2, ![8, 128]⟩
abbrev S6x128 : Shape := ⟨2, ![6, 128]⟩
abbrev S250x128 : Shape := ⟨2, ![250, 128]⟩
abbrev S256x128 : Shape := ⟨2, ![256, 128]⟩
abbrev S128x2x128 : Shape := ⟨3, ![128, 2, 128]⟩
abbrev S128x1x128 : Shape := ⟨3, ![128, 1, 128]⟩
abbrev S64x4x128 : Shape := ⟨3, ![64, 4, 128]⟩
abbrev S64x2x128 : Shape := ⟨3, ![64, 2, 128]⟩
abbrev S32x8x128 : Shape := ⟨3, ![32, 8, 128]⟩
abbrev S32x4x128 : Shape := ⟨3, ![32, 4, 128]⟩
abbrev S16x16x128 : Shape := ⟨3, ![16, 16, 128]⟩
abbrev S16x8x128 : Shape := ⟨3, ![16, 8, 128]⟩
abbrev S8x32x128 : Shape := ⟨3, ![8, 32, 128]⟩
abbrev S8x16x128 : Shape := ⟨3, ![8, 16, 128]⟩
abbrev S4x64x128 : Shape := ⟨3, ![4, 64, 128]⟩
abbrev S4x32x128 : Shape := ⟨3, ![4, 32, 128]⟩
abbrev S2x128x128 : Shape := ⟨3, ![2, 128, 128]⟩
abbrev S2x64x128 : Shape := ⟨3, ![2, 64, 128]⟩
abbrev S1x256x128 : Shape := ⟨3, ![1, 256, 128]⟩
abbrev S1x128x128 : Shape := ⟨3, ![1, 128, 128]⟩
abbrev S512x128 : Shape := ⟨2, ![512, 128]⟩
abbrev S1x512x128 : Shape := ⟨3, ![1, 512, 128]⟩
abbrev S2x256x128 : Shape := ⟨3, ![2, 256, 128]⟩
abbrev S4x128x128 : Shape := ⟨3, ![4, 128, 128]⟩
abbrev S8x64x128 : Shape := ⟨3, ![8, 64, 128]⟩
abbrev S16x32x128 : Shape := ⟨3, ![16, 32, 128]⟩
abbrev S32x16x128 : Shape := ⟨3, ![32, 16, 128]⟩
abbrev S64x8x128 : Shape := ⟨3, ![64, 8, 128]⟩
abbrev S128x4x128 : Shape := ⟨3, ![128, 4, 128]⟩
abbrev S256x2x128 : Shape := ⟨3, ![256, 2, 128]⟩
abbrev S256x1x128 : Shape := ⟨3, ![256, 1, 128]⟩
abbrev S1x128 : Shape := ⟨2, ![1, 128]⟩
abbrev S511x128 : Shape := ⟨2, ![511, 128]⟩
abbrev S2x128 : Shape := ⟨2, ![2, 128]⟩
abbrev S510x128 : Shape := ⟨2, ![510, 128]⟩
abbrev S4x128 : Shape := ⟨2, ![4, 128]⟩
abbrev S508x128 : Shape := ⟨2, ![508, 128]⟩
abbrev S504x128 : Shape := ⟨2, ![504, 128]⟩
abbrev S16x128 : Shape := ⟨2, ![16, 128]⟩
abbrev S496x128 : Shape := ⟨2, ![496, 128]⟩
abbrev S32x128 : Shape := ⟨2, ![32, 128]⟩
abbrev S480x128 : Shape := ⟨2, ![480, 128]⟩
abbrev S64x128 : Shape := ⟨2, ![64, 128]⟩
abbrev S448x128 : Shape := ⟨2, ![448, 128]⟩
abbrev S128x128 : Shape := ⟨2, ![128, 128]⟩
abbrev S384x128 : Shape := ⟨2, ![384, 128]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S64x100, .f32⟩
  | .hbm, ⟨1, _⟩ => ⟨S64x100, .f32⟩
  | .hbm, ⟨2, _⟩ => ⟨S64, .i32⟩
  | .hbm, ⟨3, _⟩ => ⟨S64x1, .i32⟩
  | .hbm, ⟨4, _⟩ => ⟨S1x1, .f32⟩
  | .hbm, ⟨5, _⟩ => ⟨S640x100, .f32⟩
  | .hbm, ⟨6, _⟩ => ⟨S500x128, .f32⟩
  | .hbm, ⟨7, _⟩ => ⟨S1x1, .f32⟩
  | .hbm, ⟨8, _⟩ => ⟨S_, .f32⟩
  | .local _ .vmem, ⟨0, _⟩ => ⟨S64x100, .f32⟩
  | .local _ .vmem, ⟨1, _⟩ => ⟨S64x100, .f32⟩
  | .local _ .vmem, ⟨2, _⟩ => ⟨S64x1, .i32⟩
  | .local _ .vmem, ⟨3, _⟩ => ⟨S1x1, .f32⟩
  | .local _ .vmem, ⟨4, _⟩ => ⟨S640x100, .f32⟩
  | .local _ .vmem, ⟨5, _⟩ => ⟨S500x128, .f32⟩
  | .local _ .vmem, ⟨6, _⟩ => ⟨S1x1, .f32⟩
  | .local _ .vmem, ⟨7, _⟩ => ⟨S1x1, .f32⟩
  | .local _ .vmem, ⟨8, _⟩ => ⟨S8x128, .f32⟩
  | _, _ => ⟨S64x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7

abbrev nD : Nat := 1
abbrev τ : Topo := Topo.v7x

variable {F : FTy → Type} [FloatOps F]

abbrev grid0 : Pipeline.Grid := .none

abbrev stage0_0 : Fin 1 → Memref sig .tc .vmem S64x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

abbrev stage1_0 : Fin 1 → Memref sig .tc .vmem S500x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== KernelIdeal.lean ====
variable {F : FTy → Type} [FloatOps F] [Named F]
def κ : String → Option EReal := fun
  | "fifth" => some ((5⁻¹ : ℝ) : EReal)
  | "third" => some ((3⁻¹ : ℝ) : EReal)
  | _ => none
-- ==== ReferenceIdeal.lean ====
abbrev S64x100 : Shape := ⟨2, ![64, 100]⟩
abbrev S64 : Shape := ⟨1, ![64]⟩
abbrev S_ : Shape := ⟨0, ![]⟩
abbrev S64x1 : Shape := ⟨2, ![64, 1]⟩
abbrev S64x1x1 : Shape := ⟨3, ![64, 1, 1]⟩
abbrev S1 : Shape := ⟨1, ![1]⟩
abbrev S1x1x1 : Shape := ⟨3, ![1, 1, 1]⟩
abbrev S5 : Shape := ⟨1, ![5]⟩
abbrev S64x100x1 : Shape := ⟨3, ![64, 100, 1]⟩
abbrev S1x1x5 : Shape := ⟨3, ![1, 1, 5]⟩
abbrev S64x100x5 : Shape := ⟨3, ![64, 100, 5]⟩
abbrev S64x5 : Shape := ⟨2, ![64, 5]⟩
abbrev S64x1x5 : Shape := ⟨3, ![64, 1, 5]⟩
abbrev S32000 : Shape := ⟨1, ![32000]⟩
abbrev S32000x1 : Shape := ⟨2, ![32000, 1]⟩
abbrev S1x32000 : Shape := ⟨2, ![1, 32000]⟩
abbrev S32000x32000 : Shape := ⟨2, ![32000, 32000]⟩
abbrev S5x64x64 : Shape := ⟨3, ![5, 64, 64]⟩
abbrev S5x100x100 : Shape := ⟨3, ![5, 100, 100]⟩

abbrev nBuf : Space → Nat
  | .hbm => 389
  | .vmem => 0
  | .smem => 0
  | _ => 0

abbrev hbmTy0_0 (i : Nat) : BufTy := match i % 128 with
  | 0 => ⟨S64x100, .f32⟩
  | 1 => ⟨S64x100, .f32⟩
  | 2 => ⟨S64, .i32⟩
  | 3 => ⟨S_, .f32⟩
  | 4 => ⟨S64, .f32⟩
  | 5 => ⟨S_, .f32⟩
  | 6 => ⟨S64, .f32⟩
  | 7 => ⟨S64, .f32⟩
  | 8 => ⟨S64x1, .f32⟩
  | 9 => ⟨S64x100, .f32⟩
  | 10 => ⟨S64x100, .f32⟩
  | 11 => ⟨S64x100, .f32⟩
  | 12 => ⟨S_, .f32⟩
  | 13 => ⟨S64, .f32⟩
  | 14 => ⟨S64x1, .f32⟩
  | 15 => ⟨S64x1, .f32⟩
  | 16 => ⟨S64x100, .f32⟩
  | 17 => ⟨S64x100, .f32⟩
  | 18 => ⟨S64x1, .i32⟩
  | 19 => ⟨S_, .i32⟩
  | 20 => ⟨S64x1, .i32⟩
  | 21 => ⟨S64x1, .i1⟩
  | 22 => ⟨S_, .i32⟩
  | 23 => ⟨S64x1, .i32⟩
  | 24 => ⟨S64x1, .i32⟩
  | 25 => ⟨S64x1, .i32⟩
  | 26 => ⟨S64x1x1, .i32⟩
  | 27 => ⟨S1, .i32⟩
  | 28 => ⟨S_, .i32⟩
  | 29 => ⟨S64x1x1, .i32⟩
  | 30 => ⟨S64x1x1, .i1⟩
  | 31 => ⟨S1x1x1, .i32⟩
  | 32 => ⟨S64x1x1, .i32⟩
  | 33 => ⟨S64x1x1, .i1⟩
  | 34 => ⟨S64x1x1, .i1⟩
  | 35 => ⟨S_, .i1⟩
  | 36 => ⟨S64x1, .i1⟩
  | 37 => ⟨S64x1, .f32⟩
  | 38 => ⟨S_, .f32⟩
  | 39 => ⟨S64x1, .f32⟩
  | 40 => ⟨S64x1, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S64x100, .f32⟩
  | 48 => ⟨S64x100, .f32⟩
  | 49 => ⟨S_, .f32⟩
  | 50 => ⟨S64, .f32⟩
  | 51 => ⟨S_, .f32⟩
  | 52 => ⟨S64, .f32⟩
  | 53 => ⟨S64, .f32⟩
  | 54 => ⟨S64x1, .f32⟩
  | 55 => ⟨S64x100, .f32⟩
  | 56 => ⟨S64x100, .f32⟩
  | 57 => ⟨S64x100, .f32⟩
  | 58 => ⟨S_, .f32⟩
  | 59 => ⟨S64, .f32⟩
  | 60 => ⟨S64x1, .f32⟩
  | 61 => ⟨S64x1, .f32⟩
  | 62 => ⟨S64x100, .f32⟩
  | 63 => ⟨S64x100, .f32⟩
  | 64 => ⟨S_, .f32⟩
  | 65 => ⟨S64x100, .f32⟩
  | 66 => ⟨S64x100, .f32⟩
  | 67 => ⟨S_, .f32⟩
  | 68 => ⟨S64, .f32⟩
  | 69 => ⟨S_, .f32⟩
  | 70 => ⟨S64, .f32⟩
  | 71 => ⟨S64, .f32⟩
  | 72 => ⟨S64x1, .f32⟩
  | 73 => ⟨S64x100, .f32⟩
  | 74 => ⟨S64x100, .f32⟩
  | 75 => ⟨S64x100, .f32⟩
  | 76 => ⟨S_, .f32⟩
  | 77 => ⟨S64, .f32⟩
  | 78 => ⟨S64x1, .f32⟩
  | 79 => ⟨S64x100, .f32⟩
  | 80 => ⟨S64x100, .f32⟩
  | 81 => ⟨S64x100, .f32⟩
  | 82 => ⟨S64x100, .f32⟩
  | 83 => ⟨S64x100, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S64x100, .f32⟩
  | 97 => ⟨S64x100, .f32⟩
  | 98 => ⟨S_, .f32⟩
  | 99 => ⟨S64, .f32⟩
  | 100 => ⟨S_, .f32⟩
  | 101 => ⟨S64, .f32⟩
  | 102 => ⟨S64, .f32⟩
  | 103 => ⟨S64x1, .f32⟩
  | 104 => ⟨S64x100, .f32⟩
  | 105 => ⟨S64x100, .f32⟩
  | 106 => ⟨S64x100, .f32⟩
  | 107 => ⟨S_, .f32⟩
  | 108 => ⟨S64, .f32⟩
  | 109 => ⟨S64x1, .f32⟩
  | 110 => ⟨S64x1, .f32⟩
  | 111 => ⟨S64x100, .f32⟩
  | 112 => ⟨S64x100, .f32⟩
  | 113 => ⟨S_, .f32⟩
  | 114 => ⟨S64x100, .f32⟩
  | 115 => ⟨S64x100, .f32⟩
  | 116 => ⟨S_, .f32⟩
  | 117 => ⟨S64, .f32⟩
  | 118 => ⟨S_, .f32⟩
  | 119 => ⟨S64, .f32⟩
  | 120 => ⟨S64, .f32⟩
  | 121 => ⟨S64x1, .f32⟩
  | 122 => ⟨S64x100, .f32⟩
  | 123 => ⟨S64x100, .f32⟩
  | 124 => ⟨S64x100, .f32⟩
  | 125 => ⟨S_, .f32⟩
  | 126 => ⟨S64, .f32⟩
  | 127 => ⟨S64x1, .f32⟩
  | _ => ⟨S64x100, .f32⟩

abbrev hbmTy0_1 (i : Nat) : BufTy := match i % 128 with
  | 0 => ⟨S64x100, .f32⟩
  | 1 => ⟨S64x100, .f32⟩
  | 2 => ⟨S64x100, .f32⟩
  | 3 => ⟨S64x100, .f32⟩
  | 4 => ⟨S64x100, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S64x100, .f32⟩
  | 17 => ⟨S64x100, .f32⟩
  | 18 => ⟨S_, .f32⟩
  | 19 => ⟨S64, .f32⟩
  | 20 => ⟨S_, .f32⟩
  | 21 => ⟨S64, .f32⟩
  | 22 => ⟨S64, .f32⟩
  | 23 => ⟨S64x1, .f32⟩
  | 24 => ⟨S64x100, .f32⟩
  | 25 => ⟨S64x100, .f32⟩
  | 26 => ⟨S64x100, .f32⟩
  | 27 => ⟨S_, .f32⟩
  | 28 => ⟨S64, .f32⟩
  | 29 => ⟨S64x1, .f32⟩
  | 30 => ⟨S64x1, .f32⟩
  | 31 => ⟨S64x100, .f32⟩
  | 32 => ⟨S64x100, .f32⟩
  | 33 => ⟨S_, .f32⟩
  | 34 => ⟨S64x100, .f32⟩
  | 35 => ⟨S64x100, .f32⟩
  | 36 => ⟨S_, .f32⟩
  | 37 => ⟨S64, .f32⟩
  | 38 => ⟨S_, .f32⟩
  | 39 => ⟨S64, .f32⟩
  | 40 => ⟨S64, .f32⟩
  | 41 => ⟨S64x1, .f32⟩
  | 42 => ⟨S64x100, .f32⟩
  | 43 => ⟨S64x100, .f32⟩
  | 44 => ⟨S64x100, .f32⟩
  | 45 => ⟨S_, .f32⟩
  | 46 => ⟨S64, .f32⟩
  | 47 => ⟨S64x1, .f32⟩
  | 48 => ⟨S64x100, .f32⟩
  | 49 => ⟨S64x100, .f32⟩
  | 50 => ⟨S64x100, .f32⟩
  | 51 => ⟨S64x100, .f32⟩
  | 52 => ⟨S64x100, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S64x100, .f32⟩
  | 65 => ⟨S64x100, .f32⟩
  | 66 => ⟨S_, .f32⟩
  | 67 => ⟨S64, .f32⟩
  | 68 => ⟨S_, .f32⟩
  | 69 => ⟨S64, .f32⟩
  | 70 => ⟨S64, .f32⟩
  | 71 => ⟨S64x1, .f32⟩
  | 72 => ⟨S64x100, .f32⟩
  | 73 => ⟨S64x100, .f32⟩
  | 74 => ⟨S64x100, .f32⟩
  | 75 => ⟨S_, .f32⟩
  | 76 => ⟨S64, .f32⟩
  | 77 => ⟨S64x1, .f32⟩
  | 78 => ⟨S64x1, .f32⟩
  | 79 => ⟨S64x100, .f32⟩
  | 80 => ⟨S64x100, .f32⟩
  | 81 => ⟨S_, .f32⟩
  | 82 => ⟨S64x100, .f32⟩
  | 83 => ⟨S64x100, .f32⟩
  | 84 => ⟨S_, .f32⟩
  | 85 => ⟨S64, .f32⟩
  | 86 => ⟨S_, .f32⟩
  | 87 => ⟨S64, .f32⟩
  | 88 => ⟨S64, .f32⟩
  | 89 => ⟨S64x1, .f32⟩
  | 90 => ⟨S64x100, .f32⟩
  | 91 => ⟨S64x100, .f32⟩
  | 92 => ⟨S64x100, .f32⟩
  | 93 => ⟨S_, .f32⟩
  | 94 => ⟨S64, .f32⟩
  | 95 => ⟨S64x1, .f32⟩
  | 96 => ⟨S64x100, .f32⟩
  | 97 => ⟨S64x100, .f32⟩
  | 98 => ⟨S64x100, .f32⟩
  | 99 => ⟨S64x100, .f32⟩
  | 100 => ⟨S64x100, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S64x100, .f32⟩
  | 113 => ⟨S64x100, .f32⟩
  | 114 => ⟨S_, .f32⟩
  | 115 => ⟨S64, .f32⟩
  | 116 => ⟨S_, .f32⟩
  | 117 => ⟨S64, .f32⟩
  | 118 => ⟨S64, .f32⟩
  | 119 => ⟨S64x1, .f32⟩
  | 120 => ⟨S64x100, .f32⟩
  | 121 => ⟨S64x100, .f32⟩
  | 122 => ⟨S64x100, .f32⟩
  | 123 => ⟨S_, .f32⟩
  | 124 => ⟨S64, .f32⟩
  | 125 => ⟨S64x1, .f32⟩
  | 126 => ⟨S64x1, .f32⟩
  | 127 => ⟨S64x100, .f32⟩
  | _ => ⟨S64x100, .f32⟩

abbrev hbmTy0_2 (i : Nat) : BufTy := match i % 128 with
  | 0 => ⟨S64x100, .f32⟩
  | 1 => ⟨S_, .f32⟩
  | 2 => ⟨S64x100, .f32⟩
  | 3 => ⟨S64x100, .f32⟩
  | 4 => ⟨S_, .f32⟩
  | 5 => ⟨S64, .f32⟩
  | 6 => ⟨S_, .f32⟩
  | 7 => ⟨S64, .f32⟩
  | 8 => ⟨S64, .f32⟩
  | 9 => ⟨S64x1, .f32⟩
  | 10 => ⟨S64x100, .f32⟩
  | 11 => ⟨S64x100, .f32⟩
  | 12 => ⟨S64x100, .f32⟩
  | 13 => ⟨S_, .f32⟩
  | 14 => ⟨S64, .f32⟩
  | 15 => ⟨S64x1, .f32⟩
  | 16 => ⟨S64x100, .f32⟩
  | 17 => ⟨S64x100, .f32⟩
  | 18 => ⟨S64x100, .f32⟩
  | 19 => ⟨S64x100, .f32⟩
  | 20 => ⟨S64x100, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S5, .f32⟩
  | 32 => ⟨S_, .f32⟩
  | 33 => ⟨S5, .f32⟩
  | 34 => ⟨S5, .f32⟩
  | 35 => ⟨S64x100x1, .f32⟩
  | 36 => ⟨S1x1x5, .f32⟩
  | 37 => ⟨S64x100x5, .f32⟩
  | 38 => ⟨S64x100x5, .f32⟩
  | 39 => ⟨S64x100x5, .f32⟩
  | 40 => ⟨S_, .f32⟩
  | 41 => ⟨S64x5, .f32⟩
  | 42 => ⟨S_, .f32⟩
  | 43 => ⟨S64x5, .f32⟩
  | 44 => ⟨S64x5, .f32⟩
  | 45 => ⟨S64x1x5, .f32⟩
  | 46 => ⟨S64x100x5, .f32⟩
  | 47 => ⟨S64x100x5, .f32⟩
  | 48 => ⟨S64x100x5, .f32⟩
  | 49 => ⟨S_, .f32⟩
  | 50 => ⟨S64x5, .f32⟩
  | 51 => ⟨S64x1x5, .f32⟩
  | 52 => ⟨S64x100x5, .f32⟩
  | 53 => ⟨S64x100x5, .f32⟩
  | 54 => ⟨S5, .f32⟩
  | 55 => ⟨S_, .f32⟩
  | 56 => ⟨S5, .f32⟩
  | 57 => ⟨S5, .f32⟩
  | 58 => ⟨S64x100x1, .f32⟩
  | 59 => ⟨S1x1x5, .f32⟩
  | 60 => ⟨S64x100x5, .f32⟩
  | 61 => ⟨S64x100x5, .f32⟩
  | 62 => ⟨S64x100x5, .f32⟩
  | 63 => ⟨S_, .f32⟩
  | 64 => ⟨S64x5, .f32⟩
  | 65 => ⟨S_, .f32⟩
  | 66 => ⟨S64x5, .f32⟩
  | 67 => ⟨S64x5, .f32⟩
  | 68 => ⟨S64x1x5, .f32⟩
  | 69 => ⟨S64x100x5, .f32⟩
  | 70 => ⟨S64x100x5, .f32⟩
  | 71 => ⟨S64x100x5, .f32⟩
  | 72 => ⟨S_, .f32⟩
  | 73 => ⟨S64x5, .f32⟩
  | 74 => ⟨S64x1x5, .f32⟩
  | 75 => ⟨S64x100x5, .f32⟩
  | 76 => ⟨S64x100x5, .f32⟩
  | 77 => ⟨S32000, .f32⟩
  | 78 => ⟨S32000, .f32⟩
  | 79 => ⟨S32000, .f32⟩
  | 80 => ⟨S_, .f32⟩
  | 81 => ⟨S_, .f32⟩
  | 82 => ⟨S32000, .f32⟩
  | 83 => ⟨S_, .f32⟩
  | 84 => ⟨S_, .f32⟩
  | 85 => ⟨S32000, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S32000x1, .f32⟩
  | 98 => ⟨S1x32000, .f32⟩
  | 99 => ⟨S32000x32000, .f32⟩
  | 100 => ⟨S32000x32000, .f32⟩
  | 101 => ⟨S32000x32000, .f32⟩
  | 102 => ⟨S32000x1, .f32⟩
  | 103 => ⟨S1x32000, .f32⟩
  | 104 => ⟨S32000x32000, .f32⟩
  | 105 => ⟨S32000x32000, .f32⟩
  | 106 => ⟨S32000x32000, .f32⟩
  | 107 => ⟨S32000x32000, .f32⟩
  | 108 => ⟨S32000x32000, .f32⟩
  | 109 => ⟨S_, .f32⟩
  | 110 => ⟨S_, .f32⟩
  | 111 => ⟨S_, .f32⟩
  | 112 => ⟨S_, .f32⟩
  | 113 => ⟨S5x64x64, .f32⟩
  | 114 => ⟨S5x64x64, .f32⟩
  | 115 => ⟨S5x64x64, .f32⟩
  | 116 => ⟨S5x100x100, .f32⟩
  | 117 => ⟨S5x100x100, .f32⟩
  | 118 => ⟨S5x100x100, .f32⟩
  | 119 => ⟨S5x64x64, .f32⟩
  | 120 => ⟨S_, .f32⟩
  | 121 => ⟨S_, .f32⟩
  | 122 => ⟨S_, .f32⟩
  | 123 => ⟨S_, .f32⟩
  | 124 => ⟨S5x100x100, .f32⟩
  | 125 => ⟨S_, .f32⟩
  | 126 => ⟨S_, .f32⟩
  | 127 => ⟨S_, .f32⟩
  | _ => ⟨S64x100, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | _ => ⟨S64x100, .f32⟩

abbrev hbmTy (i : Nat) : BufTy := match i / 128 with
  | 0 => hbmTy0_0 i
  | 1 => hbmTy0_1 i
  | 2 => hbmTy0_2 i
  | 3 => hbmTy0_3 i
  | _ => ⟨S64x100, .f32⟩

abbrev bufTy : (tb : Table) → Fin (tcTables nBuf tb) → BufTy
  | .hbm, ⟨i, _⟩ => hbmTy i
  | _, _ => ⟨S64x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_cst : Ref sig .tc := ⟨.hbm, 41, rfl⟩
abbrev main_v3 : Ref sig .tc := ⟨.hbm, 42, rfl⟩
abbrev main_cst_0 : Ref sig .tc := ⟨.hbm, 43, rfl⟩
abbrev main_v4 : Ref sig .tc := ⟨.hbm, 44, rfl⟩
abbrev main_v5 : Ref sig .tc := ⟨.hbm, 45, rfl⟩
abbrev main_cst_1 : Ref sig .tc := ⟨.hbm, 46, rfl⟩
abbrev main_v6 : Ref sig .tc := ⟨.hbm, 47, rfl⟩
abbrev main_v7 : Ref sig .tc := ⟨.hbm, 48, rfl⟩
abbrev main_call2_cst : Ref sig .tc := ⟨.hbm, 49, rfl⟩
abbrev main_call2_v0 : Ref sig .tc := ⟨.hbm, 50, rfl⟩
abbrev main_call2_cst_0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_cst_1 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_v8 : Ref sig .tc := ⟨.hbm, 63, rfl⟩
abbrev main_cst_2 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_cst_4 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_cst_5 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_cst_6 : Ref sig .tc := ⟨.hbm, 84, rfl⟩
abbrev main_v25 : Ref sig .tc := ⟨.hbm, 85, rfl⟩
abbrev main_cst_7 : Ref sig .tc := ⟨.hbm, 86, rfl⟩
abbrev main_v26 : Ref sig .tc := ⟨.hbm, 87, rfl⟩
abbrev main_cst_8 : Ref sig .tc := ⟨.hbm, 88, rfl⟩
abbrev main_v27 : Ref sig .tc := ⟨.hbm, 89, rfl⟩
abbrev main_cst_9 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_cst_11 : Ref sig .tc := ⟨.hbm, 95, rfl⟩
abbrev main_v31 : Ref sig .tc := ⟨.hbm, 96, rfl⟩
abbrev main_v32 : Ref sig .tc := ⟨.hbm, 97, rfl⟩
abbrev main_call3_cst : Ref sig .tc := ⟨.hbm, 98, rfl⟩
abbrev main_call3_v0 : Ref sig .tc := ⟨.hbm, 99, rfl⟩
abbrev main_call3_cst_0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_cst_1 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_v33 : Ref sig .tc := ⟨.hbm, 112, rfl⟩
abbrev main_cst_12 : Ref sig .tc := ⟨.hbm, 113, rfl⟩
abbrev main_v34 : Ref sig .tc := ⟨.hbm, 114, rfl⟩
abbrev main_v35 : Ref sig .tc := ⟨.hbm, 115, rfl⟩
abbrev main_cst_13 : Ref sig .tc := ⟨.hbm, 116, rfl⟩
abbrev main_v36 : Ref sig .tc := ⟨.hbm, 117, rfl⟩
abbrev main_cst_14 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_cst_15 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_cst_16 : Ref sig .tc := ⟨.hbm, 133, rfl⟩
abbrev main_v50 : Ref sig .tc := ⟨.hbm, 134, rfl⟩
abbrev main_cst_17 : Ref sig .tc := ⟨.hbm, 135, rfl⟩
abbrev main_v51 : Ref sig .tc := ⟨.hbm, 136, rfl⟩
abbrev main_cst_18 : Ref sig .tc := ⟨.hbm, 137, rfl⟩
abbrev main_v52 : Ref sig .tc := ⟨.hbm, 138, rfl⟩
abbrev main_v53 : Ref sig .tc := ⟨.hbm, 139, rfl⟩
abbrev main_cst_19 : Ref sig .tc := ⟨.hbm, 140, rfl⟩
abbrev main_v54 : Ref sig .tc := ⟨.hbm, 141, rfl⟩
abbrev main_v55 : Ref sig .tc := ⟨.hbm, 142, rfl⟩
abbrev main_cst_20 : Ref sig .tc := ⟨.hbm, 143, rfl⟩
abbrev main_v56 : Ref sig .tc := ⟨.hbm, 144, rfl⟩
abbrev main_v57 : Ref sig .tc := ⟨.hbm, 145, rfl⟩
abbrev main_call4_cst : Ref sig .tc := ⟨.hbm, 146, rfl⟩
abbrev main_call4_v0 : Ref sig .tc := ⟨.hbm, 147, rfl⟩
abbrev main_call4_cst_0 : Ref sig .tc := ⟨.hbm, 148, rfl⟩
abbrev main_call4_v1 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_call4_v5 : Ref sig .tc := ⟨.hbm, 153, rfl⟩
abbrev main_call4_v6 : Ref sig .tc := ⟨.hbm, 154, rfl⟩
abbrev main_call4_cst_1 : Ref sig .tc := ⟨.hbm, 155, rfl⟩
abbrev main_call4_v7 : Ref sig .tc := ⟨.hbm, 156, rfl⟩
abbrev main_call4_v8 : Ref sig .tc := ⟨.hbm, 157, rfl⟩
abbrev main_call4_v9 : Ref sig .tc := ⟨.hbm, 158, rfl⟩
abbrev main_call4_v10 : Ref sig .tc := ⟨.hbm, 159, rfl⟩
abbrev main_v58 : Ref sig .tc := ⟨.hbm, 160, rfl⟩
abbrev main_cst_21 : Ref sig .tc := ⟨.hbm, 161, rfl⟩
abbrev main_v59 : Ref sig .tc := ⟨.hbm, 162, rfl⟩
abbrev main_v60 : Ref sig .tc := ⟨.hbm, 163, rfl⟩
abbrev main_cst_22 : Ref sig .tc := ⟨.hbm, 164, rfl⟩
abbrev main_v61 : Ref sig .tc := ⟨.hbm, 165, rfl⟩
abbrev main_cst_23 : Ref sig .tc := ⟨.hbm, 166, rfl⟩
abbrev main_v62 : Ref sig .tc := ⟨.hbm, 167, rfl⟩
abbrev main_v63 : Ref sig .tc := ⟨.hbm, 168, rfl⟩
abbrev main_v64 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_cst_24 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_cst_25 : Ref sig .tc := ⟨.hbm, 181, rfl⟩
abbrev main_v75 : Ref sig .tc := ⟨.hbm, 182, rfl⟩
abbrev main_cst_26 : Ref sig .tc := ⟨.hbm, 183, rfl⟩
abbrev main_v76 : Ref sig .tc := ⟨.hbm, 184, rfl⟩
abbrev main_cst_27 : Ref sig .tc := ⟨.hbm, 185, rfl⟩
abbrev main_v77 : Ref sig .tc := ⟨.hbm, 186, rfl⟩
abbrev main_v78 : Ref sig .tc := ⟨.hbm, 187, rfl⟩
abbrev main_cst_28 : Ref sig .tc := ⟨.hbm, 188, rfl⟩
abbrev main_v79 : Ref sig .tc := ⟨.hbm, 189, rfl⟩
abbrev main_v80 : Ref sig .tc := ⟨.hbm, 190, rfl⟩
abbrev main_cst_29 : Ref sig .tc := ⟨.hbm, 191, rfl⟩
abbrev main_v81 : Ref sig .tc := ⟨.hbm, 192, rfl⟩
abbrev main_v82 : Ref sig .tc := ⟨.hbm, 193, rfl⟩
abbrev main_call5_cst : Ref sig .tc := ⟨.hbm, 194, rfl⟩
abbrev main_call5_v0 : Ref sig .tc := ⟨.hbm, 195, rfl⟩
abbrev main_call5_cst_0 : Ref sig .tc := ⟨.hbm, 196, rfl⟩
abbrev main_call5_v1 : Ref sig .tc := ⟨.hbm, 197, rfl⟩
abbrev main_call5_v2 : Ref sig .tc := ⟨.hbm, 198, rfl⟩
abbrev main_call5_v3 : Ref sig .tc := ⟨.hbm, 199, rfl⟩
abbrev main_call5_v4 : Ref sig .tc := ⟨.hbm, 200, rfl⟩
abbrev main_call5_v5 : Ref sig .tc := ⟨.hbm, 201, rfl⟩
abbrev main_call5_v6 : Ref sig .tc := ⟨.hbm, 202, rfl⟩
abbrev main_call5_cst_1 : Ref sig .tc := ⟨.hbm, 203, rfl⟩
abbrev main_call5_v7 : Ref sig .tc := ⟨.hbm, 204, rfl⟩
abbrev main_call5_v8 : Ref sig .tc := ⟨.hbm, 205, rfl⟩
abbrev main_call5_v9 : Ref sig .tc := ⟨.hbm, 206, rfl⟩
abbrev main_call5_v10 : Ref sig .tc := ⟨.hbm, 207, rfl⟩
abbrev main_v83 : Ref sig .tc := ⟨.hbm, 208, rfl⟩
abbrev main_cst_30 : Ref sig .tc := ⟨.hbm, 209, rfl⟩
abbrev main_v84 : Ref sig .tc := ⟨.hbm, 210, rfl⟩
abbrev main_v85 : Ref sig .tc := ⟨.hbm, 211, rfl⟩
abbrev main_cst_31 : Ref sig .tc := ⟨.hbm, 212, rfl⟩
abbrev main_v86 : Ref sig .tc := ⟨.hbm, 213, rfl⟩
abbrev main_cst_32 : Ref sig .tc := ⟨.hbm, 214, rfl⟩
abbrev main_v87 : Ref sig .tc := ⟨.hbm, 215, rfl⟩
abbrev main_v88 : Ref sig .tc := ⟨.hbm, 216, rfl⟩
abbrev main_v89 : Ref sig .tc := ⟨.hbm, 217, rfl⟩
abbrev main_v90 : Ref sig .tc := ⟨.hbm, 218, rfl⟩
abbrev main_v91 : Ref sig .tc := ⟨.hbm, 219, rfl⟩
abbrev main_v92 : Ref sig .tc := ⟨.hbm, 220, rfl⟩
abbrev main_cst_33 : Ref sig .tc := ⟨.hbm, 221, rfl⟩
abbrev main_v93 : Ref sig .tc := ⟨.hbm, 222, rfl⟩
abbrev main_v94 : Ref sig .tc := ⟨.hbm, 223, rfl⟩
abbrev main_v95 : Ref sig .tc := ⟨.hbm, 224, rfl⟩
abbrev main_v96 : Ref sig .tc := ⟨.hbm, 225, rfl⟩
abbrev main_v97 : Ref sig .tc := ⟨.hbm, 226, rfl⟩
abbrev main_v98 : Ref sig .tc := ⟨.hbm, 227, rfl⟩
abbrev main_v99 : Ref sig .tc := ⟨.hbm, 228, rfl⟩
abbrev main_cst_34 : Ref sig .tc := ⟨.hbm, 229, rfl⟩
abbrev main_v100 : Ref sig .tc := ⟨.hbm, 230, rfl⟩
abbrev main_cst_35 : Ref sig .tc := ⟨.hbm, 231, rfl⟩
abbrev main_v101 : Ref sig .tc := ⟨.hbm, 232, rfl⟩
abbrev main_cst_36 : Ref sig .tc := ⟨.hbm, 233, rfl⟩
abbrev main_v102 : Ref sig .tc := ⟨.hbm, 234, rfl⟩
abbrev main_v103 : Ref sig .tc := ⟨.hbm, 235, rfl⟩
abbrev main_cst_37 : Ref sig .tc := ⟨.hbm, 236, rfl⟩
abbrev main_v104 : Ref sig .tc := ⟨.hbm, 237, rfl⟩
abbrev main_v105 : Ref sig .tc := ⟨.hbm, 238, rfl⟩
abbrev main_cst_38 : Ref sig .tc := ⟨.hbm, 239, rfl⟩
abbrev main_v106 : Ref sig .tc := ⟨.hbm, 240, rfl⟩
abbrev main_v107 : Ref sig .tc := ⟨.hbm, 241, rfl⟩
abbrev main_call6_cst : Ref sig .tc := ⟨.hbm, 242, rfl⟩
abbrev main_call6_v0 : Ref sig .tc := ⟨.hbm, 243, rfl⟩
abbrev main_call6_cst_0 : Ref sig .tc := ⟨.hbm, 244, rfl⟩
abbrev main_call6_v1 : Ref sig .tc := ⟨.hbm, 245, rfl⟩
abbrev main_call6_v2 : Ref sig .tc := ⟨.hbm, 246, rfl⟩
abbrev main_call6_v3 : Ref sig .tc := ⟨.hbm, 247, rfl⟩
abbrev main_call6_v4 : Ref sig .tc := ⟨.hbm, 248, rfl⟩
abbrev main_call6_v5 : Ref sig .tc := ⟨.hbm, 249, rfl⟩
abbrev main_call6_v6 : Ref sig .tc := ⟨.hbm, 250, rfl⟩
abbrev main_call6_cst_1 : Ref sig .tc := ⟨.hbm, 251, rfl⟩
abbrev main_call6_v7 : Ref sig .tc := ⟨.hbm, 252, rfl⟩
abbrev main_call6_v8 : Ref sig .tc := ⟨.hbm, 253, rfl⟩
abbrev main_call6_v9 : Ref sig .tc := ⟨.hbm, 254, rfl⟩
abbrev main_call6_v10 : Ref sig .tc := ⟨.hbm, 255, rfl⟩
abbrev main_v108 : Ref sig .tc := ⟨.hbm, 256, rfl⟩
abbrev main_cst_39 : Ref sig .tc := ⟨.hbm, 257, rfl⟩
abbrev main_v109 : Ref sig .tc := ⟨.hbm, 258, rfl⟩
abbrev main_v110 : Ref sig .tc := ⟨.hbm, 259, rfl⟩
abbrev main_cst_40 : Ref sig .tc := ⟨.hbm, 260, rfl⟩
abbrev main_v111 : Ref sig .tc := ⟨.hbm, 261, rfl⟩
abbrev main_cst_41 : Ref sig .tc := ⟨.hbm, 262, rfl⟩
abbrev main_v112 : Ref sig .tc := ⟨.hbm, 263, rfl⟩
abbrev main_v113 : Ref sig .tc := ⟨.hbm, 264, rfl⟩
abbrev main_v114 : Ref sig .tc := ⟨.hbm, 265, rfl⟩
abbrev main_v115 : Ref sig .tc := ⟨.hbm, 266, rfl⟩
abbrev main_v116 : Ref sig .tc := ⟨.hbm, 267, rfl⟩
abbrev main_v117 : Ref sig .tc := ⟨.hbm, 268, rfl⟩
abbrev main_cst_42 : Ref sig .tc := ⟨.hbm, 269, rfl⟩
abbrev main_v118 : Ref sig .tc := ⟨.hbm, 270, rfl⟩
abbrev main_v119 : Ref sig .tc := ⟨.hbm, 271, rfl⟩
abbrev main_v120 : Ref sig .tc := ⟨.hbm, 272, rfl⟩
abbrev main_v121 : Ref sig .tc := ⟨.hbm, 273, rfl⟩
abbrev main_v122 : Ref sig .tc := ⟨.hbm, 274, rfl⟩
abbrev main_v123 : Ref sig .tc := ⟨.hbm, 275, rfl⟩
abbrev main_v124 : Ref sig .tc := ⟨.hbm, 276, rfl⟩
abbrev main_cst_43 : Ref sig .tc := ⟨.hbm, 277, rfl⟩
abbrev main_v125 : Ref sig .tc := ⟨.hbm, 278, rfl⟩
abbrev main_cst_44 : Ref sig .tc := ⟨.hbm, 279, rfl⟩
abbrev main_v126 : Ref sig .tc := ⟨.hbm, 280, rfl⟩
abbrev main_cst_45 : Ref sig .tc := ⟨.hbm, 281, rfl⟩
abbrev main_v127 : Ref sig .tc := ⟨.hbm, 282, rfl⟩
abbrev main_v128 : Ref sig .tc := ⟨.hbm, 283, rfl⟩
abbrev main_cst_46 : Ref sig .tc := ⟨.hbm, 284, rfl⟩
abbrev main_v129 : Ref sig .tc := ⟨.hbm, 285, rfl⟩
abbrev main_v130 : Ref sig .tc := ⟨.hbm, 286, rfl⟩
abbrev main_v131 : Ref sig .tc := ⟨.hbm, 287, rfl⟩
abbrev main_cst_47 : Ref sig .tc := ⟨.hbm, 288, rfl⟩
abbrev main_v132 : Ref sig .tc := ⟨.hbm, 289, rfl⟩
abbrev main_v133 : Ref sig .tc := ⟨.hbm, 290, rfl⟩
abbrev main_v134 : Ref sig .tc := ⟨.hbm, 291, rfl⟩
abbrev main_v135 : Ref sig .tc := ⟨.hbm, 292, rfl⟩
abbrev main_v136 : Ref sig .tc := ⟨.hbm, 293, rfl⟩
abbrev main_v137 : Ref sig .tc := ⟨.hbm, 294, rfl⟩
abbrev main_v138 : Ref sig .tc := ⟨.hbm, 295, rfl⟩
abbrev main_cst_48 : Ref sig .tc := ⟨.hbm, 296, rfl⟩
abbrev main_v139 : Ref sig .tc := ⟨.hbm, 297, rfl⟩
abbrev main_cst_49 : Ref sig .tc := ⟨.hbm, 298, rfl⟩
abbrev main_v140 : Ref sig .tc := ⟨.hbm, 299, rfl⟩
abbrev main_v141 : Ref sig .tc := ⟨.hbm, 300, rfl⟩
abbrev main_v142 : Ref sig .tc := ⟨.hbm, 301, rfl⟩
abbrev main_v143 : Ref sig .tc := ⟨.hbm, 302, rfl⟩
abbrev main_v144 : Ref sig .tc := ⟨.hbm, 303, rfl⟩
abbrev main_v145 : Ref sig .tc := ⟨.hbm, 304, rfl⟩
abbrev main_cst_50 : Ref sig .tc := ⟨.hbm, 305, rfl⟩
abbrev main_v146 : Ref sig .tc := ⟨.hbm, 306, rfl⟩
abbrev main_v147 : Ref sig .tc := ⟨.hbm, 307, rfl⟩
abbrev main_v148 : Ref sig .tc := ⟨.hbm, 308, rfl⟩
abbrev main_v149 : Ref sig .tc := ⟨.hbm, 309, rfl⟩
abbrev main_v150 : Ref sig .tc := ⟨.hbm, 310, rfl⟩
abbrev main_cst_51 : Ref sig .tc := ⟨.hbm, 311, rfl⟩
abbrev main_v151 : Ref sig .tc := ⟨.hbm, 312, rfl⟩
abbrev main_v152 : Ref sig .tc := ⟨.hbm, 313, rfl⟩
abbrev main_v153 : Ref sig .tc := ⟨.hbm, 314, rfl⟩
abbrev main_v154 : Ref sig .tc := ⟨.hbm, 315, rfl⟩
abbrev main_v155 : Ref sig .tc := ⟨.hbm, 316, rfl⟩
abbrev main_v156 : Ref sig .tc := ⟨.hbm, 317, rfl⟩
abbrev main_v157 : Ref sig .tc := ⟨.hbm, 318, rfl⟩
abbrev main_cst_52 : Ref sig .tc := ⟨.hbm, 319, rfl⟩
abbrev main_v158 : Ref sig .tc := ⟨.hbm, 320, rfl⟩
abbrev main_cst_53 : Ref sig .tc := ⟨.hbm, 321, rfl⟩
abbrev main_v159 : Ref sig .tc := ⟨.hbm, 322, rfl⟩
abbrev main_v160 : Ref sig .tc := ⟨.hbm, 323, rfl⟩
abbrev main_v161 : Ref sig .tc := ⟨.hbm, 324, rfl⟩
abbrev main_v162 : Ref sig .tc := ⟨.hbm, 325, rfl⟩
abbrev main_v163 : Ref sig .tc := ⟨.hbm, 326, rfl⟩
abbrev main_v164 : Ref sig .tc := ⟨.hbm, 327, rfl⟩
abbrev main_cst_54 : Ref sig .tc := ⟨.hbm, 328, rfl⟩
abbrev main_v165 : Ref sig .tc := ⟨.hbm, 329, rfl⟩
abbrev main_v166 : Ref sig .tc := ⟨.hbm, 330, rfl⟩
abbrev main_v167 : Ref sig .tc := ⟨.hbm, 331, rfl⟩
abbrev main_v168 : Ref sig .tc := ⟨.hbm, 332, rfl⟩
abbrev main_v169 : Ref sig .tc := ⟨.hbm, 333, rfl⟩
abbrev main_v170 : Ref sig .tc := ⟨.hbm, 334, rfl⟩
abbrev main_v171 : Ref sig .tc := ⟨.hbm, 335, rfl⟩
abbrev main_cst_55 : Ref sig .tc := ⟨.hbm, 336, rfl⟩
abbrev main_v172 : Ref sig .tc := ⟨.hbm, 337, rfl⟩
abbrev main_v173 : Ref sig .tc := ⟨.hbm, 338, rfl⟩
abbrev main_cst_56 : Ref sig .tc := ⟨.hbm, 339, rfl⟩
abbrev main_v174 : Ref sig .tc := ⟨.hbm, 340, rfl⟩
abbrev main_v175 : Ref sig .tc := ⟨.hbm, 341, rfl⟩
abbrev main_cst_57 : Ref sig .tc := ⟨.hbm, 342, rfl⟩
abbrev main_v176 : Ref sig .tc := ⟨.hbm, 343, rfl⟩
abbrev main_v177 : Ref sig .tc := ⟨.hbm, 344, rfl⟩
abbrev main_cst_58 : Ref sig .tc := ⟨.hbm, 345, rfl⟩
abbrev main_v178 : Ref sig .tc := ⟨.hbm, 346, rfl⟩
abbrev main_v179 : Ref sig .tc := ⟨.hbm, 347, rfl⟩
abbrev main_v180 : Ref sig .tc := ⟨.hbm, 348, rfl⟩
abbrev main_v181 : Ref sig .tc := ⟨.hbm, 349, rfl⟩
abbrev main_v182 : Ref sig .tc := ⟨.hbm, 350, rfl⟩
abbrev main_cst_59 : Ref sig .tc := ⟨.hbm, 351, rfl⟩
abbrev main_v183 : Ref sig .tc := ⟨.hbm, 352, rfl⟩
abbrev main_v184 : Ref sig .tc := ⟨.hbm, 353, rfl⟩
abbrev main_v185 : Ref sig .tc := ⟨.hbm, 354, rfl⟩
abbrev main_v186 : Ref sig .tc := ⟨.hbm, 355, rfl⟩
abbrev main_v187 : Ref sig .tc := ⟨.hbm, 356, rfl⟩
abbrev main_v188 : Ref sig .tc := ⟨.hbm, 357, rfl⟩
abbrev main_v189 : Ref sig .tc := ⟨.hbm, 358, rfl⟩
abbrev main_v190 : Ref sig .tc := ⟨.hbm, 359, rfl⟩
abbrev main_v191 : Ref sig .tc := ⟨.hbm, 360, rfl⟩
abbrev main_v192 : Ref sig .tc := ⟨.hbm, 361, rfl⟩
abbrev main_v193 : Ref sig .tc := ⟨.hbm, 362, rfl⟩
abbrev main_v194 : Ref sig .tc := ⟨.hbm, 363, rfl⟩
abbrev main_v195 : Ref sig .tc := ⟨.hbm, 364, rfl⟩
abbrev main_cst_60 : Ref sig .tc := ⟨.hbm, 365, rfl⟩
abbrev main_v196 : Ref sig .tc := ⟨.hbm, 366, rfl⟩
abbrev main_cst_61 : Ref sig .tc := ⟨.hbm, 367, rfl⟩
abbrev main_v197 : Ref sig .tc := ⟨.hbm, 368, rfl⟩
abbrev main_v198 : Ref sig .tc := ⟨.hbm, 369, rfl⟩
abbrev main_v199 : Ref sig .tc := ⟨.hbm, 370, rfl⟩
abbrev main_v200 : Ref sig .tc := ⟨.hbm, 371, rfl⟩
abbrev main_v201 : Ref sig .tc := ⟨.hbm, 372, rfl⟩
abbrev main_v202 : Ref sig .tc := ⟨.hbm, 373, rfl⟩
abbrev main_v203 : Ref sig .tc := ⟨.hbm, 374, rfl⟩
abbrev main_v204 : Ref sig .tc := ⟨.hbm, 375, rfl⟩
abbrev main_cst_62 : Ref sig .tc := ⟨.hbm, 376, rfl⟩
abbrev main_v205 : Ref sig .tc := ⟨.hbm, 377, rfl⟩
abbrev main_cst_63 : Ref sig .tc := ⟨.hbm, 378, rfl⟩
abbrev main_v206 : Ref sig .tc := ⟨.hbm, 379, rfl⟩
abbrev main_v207 : Ref sig .tc := ⟨.hbm, 380, rfl⟩
abbrev main_cst_64 : Ref sig .tc := ⟨.hbm, 381, rfl⟩
abbrev main_v208 : Ref sig .tc := ⟨.hbm, 382, rfl⟩
abbrev main_cst_65 : Ref sig .tc := ⟨.hbm, 383, rfl⟩
abbrev main_v209 : Ref sig .tc := ⟨.hbm, 384, rfl⟩
abbrev main_v210 : Ref sig .tc := ⟨.hbm, 385, rfl⟩
abbrev main_v211 : Ref sig .tc := ⟨.hbm, 386, rfl⟩
abbrev main_v212 : Ref sig .tc := ⟨.hbm, 387, rfl⟩
abbrev main_v213 : Ref sig .tc := ⟨.hbm, 388, rfl⟩

abbrev nD : Nat := 1
abbrev τ : Topo := Topo.v7x

variable {F : FTy → Type} [FloatOps F]
-- ==== Proof.L1Ops.lean ====
/-
  The second launch's arithmetic, operation by operation, written once for every distance and every
  number of rows: the exchange with a partner, one comparison step of the sorting network, the running
  sum, and the number the launch leaves.  Nothing is proved here but the shape conditions.
-/
module

public import Idealize.ShloMosaic.PureOps
public import Idealize.ShloMosaic.PureOps.Ideal

@[expose] public section

namespace Cert.L1

open Idealize.ShloMosaic

variable {F : FTy → Type} [FloatOps F] [Named F]

/-- `R` rows of 128 lanes. -/
abbrev SR (R : ℕ) : Shape := ⟨2, ![R, 128]⟩

/-- `g` groups of `r` rows of 128 lanes. -/
abbrev SG (g r : ℕ) : Shape := ⟨3, ![g, r, 128]⟩

/-- One number. -/
abbrev SOne : Shape := ⟨2, ![1, 1]⟩

/-! ## Shape conditions -/

theorem iotas_SR (R : ℕ) (a : Fin 2) : (SR R).Iotas .tc 32 [a] :=
  ⟨by simp, fun _ => ⟨.inr rfl, le_rfl⟩, fun h => absurd rfl h⟩

theorem rotates_SR (R : ℕ) : (SR R).Rotates 1 none := ⟨le_rfl, fun q hq => by simp at hq⟩

theorem casts_group {R g s : ℕ} (h : g * (2 * s) = R) : (SR R).ShapeCasts (SG g (2 * s)) := by
  subst h; simp [Shape.ShapeCasts, Shape.numel, Fin.prod_univ_succ]; ring

theorem casts_ungroup {R g s : ℕ} (h : g * (2 * s) = R) : (SG g (2 * s)).ShapeCasts (SR R) :=
  (casts_group h).symm

theorem slices_upper (g s : ℕ) : (SG g (2 * s)).Slices ![0, s, 0] (SG g s) :=
  ⟨rfl, fun a => by fin_cases a <;> simp; omega⟩

theorem slices_lower (g s : ℕ) : (SG g (2 * s)).Slices ![0, 0, 0] (SG g s) :=
  ⟨rfl, fun a => by fin_cases a <;> simp; omega⟩

theorem concatenates_group (g s : ℕ) : Shape.Concatenates [SG g s, SG g s] (SG g (2 * s)) 1 := by
  refine ⟨le_rfl, fun t ht => ?_, ?_⟩
  · have : t = SG g s := by simpa using ht
    subst this
    exact ⟨rfl, fun b hb => by fin_cases b <;> simp_all⟩
  · simp; omega

theorem slices_rows {R m r : ℕ} (h : m + r = R) : (SR R).Slices ![0, 0] (SR r) :=
  ⟨rfl, fun a => by fin_cases a <;> simp; omega⟩

theorem concatenates_rows {R m r : ℕ} (h : m + r = R) : Shape.Concatenates [SR m, SR r] (SR R) 0 := by
  refine ⟨le_rfl, fun t ht => ?_, ?_⟩
  · have : t = SR m ∨ t = SR r := by simpa using ht
    rcases this with rfl | rfl <;> exact ⟨rfl, fun b hb => by fin_cases b <;> simp_all⟩
  · simpa using h

theorem casts_total (R : ℕ) : (SR R).ShapeCasts (SG 1 R) := by
  simp [Shape.ShapeCasts, Shape.numel, Fin.prod_univ_succ]

theorem reduces_total (R : ℕ) : (SG 1 R).Reduces [1, 2] ⟨1, ![1]⟩ :=
  ⟨rfl, by decide, fun b => by fin_cases b; rfl⟩

theorem broadcasts_one (R : ℕ) : SOne.Broadcasts (SR R) :=
  ⟨le_rfl, fun a => .inl (by fin_cases a <;> rfl)⟩

/-! ## Positions -/

/-- The lane of each entry. -/
def lanes (R : ℕ) : IVec (SR R) 32 := iota .tc (SR R) 32 [1] (iotas_SR R 1)

/-- The place of each entry when the rows are laid end to end. -/
def flat (R : ℕ) : IVec (SR R) 32 :=
  addi (muli (iota .tc (SR R) 32 [0] (iotas_SR R 0)) (broadcast (SR R) 128#32)) (lanes R)

/-- Which entries have the bit `j` of `x` clear. -/
def bitClear (R : ℕ) (x : IVec (SR R) 32) (j : ℕ) : IVec (SR R) 1 :=
  cmpi .eq (andi x (broadcast (SR R) (BitVec.ofNat 32 j))) (broadcast (SR R) 0#32)

/-! ## One comparison step -/

/-- The entry at distance `j < 128`: the lanes are rotated both ways. -/
def rollPartner (R j : ℕ) (x : FVec F (SR R) .f32) : FVec F (SR R) .f32 :=
  select (bitClear R (lanes R) j) (dynamicRotate 1 (BitVec.ofNat 32 (128 - j)) none x (rotates_SR R))
    (dynamicRotate 1 (BitVec.ofNat 32 j) none x (rotates_SR R))

/-- The entry at distance `128 * s`: the two halves of each group of `2 * s` rows are exchanged. -/
def blockPartner (R g s : ℕ) (h : g * (2 * s) = R) (x : FVec F (SR R) .f32) : FVec F (SR R) .f32 :=
  shapeCast (SR R)
    (concatenate (SG g (2 * s)) 1
      [⟨SG g s, extractStridedSlice (SG g s) ![0, s, 0] (shapeCast (SG g (2 * s)) x (casts_group h)) (slices_upper g s)⟩,
       ⟨SG g s, extractStridedSlice (SG g s) ![0, 0, 0] (shapeCast (SG g (2 * s)) x (casts_group h)) (slices_lower g s)⟩]
      (concatenates_group g s))
    (casts_ungroup h)

/-- The entry at distance `2 ^ s`. -/
def partner (R s : ℕ) (x : FVec F (SR R) .f32) : FVec F (SR R) .f32 :=
  if s < 7 then rollPartner R (2 ^ s) x
  else if h : R / (2 * 2 ^ (s - 7)) * (2 * 2 ^ (s - 7)) = R then blockPartner R (R / (2 * 2 ^ (s - 7))) (2 ^ (s - 7)) h x
  else x

/-- Where the entries' order is to be descending: where the bit `2 ^ l` of the place is set. -/
def notAsc (R l : ℕ) : IVec (SR R) 1 :=
  cmpi .ne (andi (flat R) (broadcast (SR R) (BitVec.ofNat 32 (2 ^ l)))) (broadcast (SR R) 0#32)

/-- Which entries take the lesser of the pair, every order ascending. -/
def lowAsc (R s : ℕ) : IVec (SR R) 1 := bitClear R (flat R) (2 ^ s)

/-- Which entries take the lesser of the pair, the order given by the bit `2 ^ l`. -/
def lowBy (R s l : ℕ) : IVec (SR R) 1 := xori (lowAsc R s) (notAsc R l)

/-- Which entries take their partner's value, given where the lesser belongs (`c`), the keys and the partners' keys. -/
def takes (R : ℕ) (c : IVec (SR R) 1) (pk key : FVec F (SR R) .f32) : IVec (SR R) 1 :=
  ori (andi c (cmpf .olt pk key)) (andi (xori c (constantI (SR R) 1 1#1)) (cmpf .ogt pk key))

/-- One step on a key and one payload. -/
def step1 (R s : ℕ) (c : IVec (SR R) 1) (x : FVec F (SR R) .f32 × FVec F (SR R) .f32) :
    FVec F (SR R) .f32 × FVec F (SR R) .f32 :=
  ⟨select (takes R c (partner R s x.1) x.1) (partner R s x.1) x.1,
   select (takes R c (partner R s x.1) x.1) (partner R s x.2) x.2⟩

/-- One step on a key and two payloads. -/
def step2 (R s : ℕ) (c : IVec (SR R) 1) (x : FVec F (SR R) .f32 × FVec F (SR R) .f32 × FVec F (SR R) .f32) :
    FVec F (SR R) .f32 × FVec F (SR R) .f32 × FVec F (SR R) .f32 :=
  ⟨select (takes R c (partner R s x.1) x.1) (partner R s x.1) x.1,
   select (takes R c (partner R s x.1) x.1) (partner R s x.2.1) x.2.1,
   select (takes R c (partner R s x.1) x.1) (partner R s x.2.2) x.2.2⟩

/-- The steps of one merge of the sort, distances `2 ^ (n-1)`, …, 1, with the direction mask at distance `2 ^ s` given by `c`. -/
def merge1 (R : ℕ) (c : ℕ → IVec (SR R) 1) : ℕ → FVec F (SR R) .f32 × FVec F (SR R) .f32 → FVec F (SR R) .f32 × FVec F (SR R) .f32
  | 0, x => x
  | n + 1, x => merge1 R c n (step1 R n (c n) x)

/-- The sort's merges of sizes 2, …, `2 ^ n`, each in the direction of its own bit. -/
def sorts (R : ℕ) : ℕ → FVec F (SR R) .f32 × FVec F (SR R) .f32 → FVec F (SR R) .f32 × FVec F (SR R) .f32
  | 0, x => x
  | n + 1, x => merge1 R (fun s => lowBy R s (n + 1)) (n + 1) (sorts R n x)

/-- The whole sort of `2 ^ (n + 1)` entries: the last merge is ascending throughout. -/
def sortAll (R n : ℕ) (x : FVec F (SR R) .f32 × FVec F (SR R) .f32) : FVec F (SR R) .f32 × FVec F (SR R) .f32 :=
  merge1 R (fun s => lowAsc R s) (n + 1) (sorts R n x)

/-- The steps of the ascending merge with two payloads. -/
def merge2 (R : ℕ) : ℕ → FVec F (SR R) .f32 × FVec F (SR R) .f32 × FVec F (SR R) .f32 →
    FVec F (SR R) .f32 × FVec F (SR R) .f32 × FVec F (SR R) .f32
  | 0, x => x
  | n + 1, x => merge2 R n (step2 R n (lowAsc R n) x)

/-! ## The running sum -/

/-- `m` rows of zeros above the first `r` rows of `x`. -/
def down (R m r : ℕ) (h : m + r = R) (x : FVec F (SR R) .f32) : FVec F (SR R) .f32 :=
  concatenate (SR R) 0 [⟨SR m, broadcast (SR m) (Scalar.ofBits .f32 0x00000000#32)⟩,
    ⟨SR r, extractStridedSlice (SR r) ![0, 0] x (slices_rows h)⟩] (concatenates_rows h)

/-- The entry `d < 128` places before, zero where there is none. -/
def rollBack (R d : ℕ) (h : 1 + (R - 1) = R) (x : FVec F (SR R) .f32) : FVec F (SR R) .f32 :=
  select (cmpi .slt (lanes R) (broadcast (SR R) (BitVec.ofNat 32 d)))
    (down R 1 (R - 1) h (dynamicRotate 1 (BitVec.ofNat 32 d) none x (rotates_SR R)))
    (dynamicRotate 1 (BitVec.ofNat 32 d) none x (rotates_SR R))

/-- The entry `2 ^ s` places before, zero where there is none. -/
def back (R s : ℕ) (x : FVec F (SR R) .f32) : FVec F (SR R) .f32 :=
  if s < 7 then if h : 1 + (R - 1) = R then rollBack R (2 ^ s) h x else x
  else if h : 2 ^ (s - 7) + (R - 2 ^ (s - 7)) = R then down R (2 ^ (s - 7)) (R - 2 ^ (s - 7)) h x else x

/-- The running sum after the distances 1, 2, …, `2 ^ (n-1)`. -/
def scan (R : ℕ) : ℕ → FVec F (SR R) .f32 → FVec F (SR R) .f32
  | 0, x => x
  | n + 1, x => addf (scan R n x) (back R n (scan R n x))

/-! ## Totals and the result -/

/-- The sum of all the entries. -/
def total (R : ℕ) (x : FVec F (SR R) .f32) : FVec F SOne .f32 :=
  broadcast SOne (extractAt ![0, 0, 0]
    (shapeCast ⟨3, ![1, 1, 1]⟩
      (multiReduction .add [1, 2] ⟨1, ![1]⟩ (shapeCast (SG 1 R) x (casts_total R)) 0x00000000#32 (reduces_total R) (.inl rfl) rfl)
      (by decide)) (by decide))

/-- A constant over all the entries. -/
def cst (s : Shape) (b : BitVec 32) : FVec F s .f32 := broadcast s (Scalar.ofBits .f32 b)

/-- The keys: rows 250 to 499 of the input, then six rows of the padding key. -/
def keys0 (v : FVec F (SR 250) .f32) : FVec F (SR 256) .f32 :=
  concatenate (SR 256) 0 [⟨SR 250, shapeCast (SR 250) v rfl⟩, ⟨SR 6, cst (SR 6) 0x7149F2CA#32⟩] (concatenates_rows rfl)

/-- The weights: rows 0 to 249 of the input, then six rows of zeros. -/
def weights0 (v : FVec F (SR 250) .f32) : FVec F (SR 256) .f32 :=
  concatenate (SR 256) 0 [⟨SR 250, shapeCast (SR 250) v rfl⟩, ⟨SR 6, cst (SR 6) 0x00000000#32⟩] (concatenates_rows rfl)

/-- One array above another. -/
def stack (x y : FVec F (SR 256) .f32) : FVec F (SR 512) .f32 :=
  concatenate (SR 512) 0 [⟨SR 256, x⟩, ⟨SR 256, y⟩] (concatenates_rows rfl)

/-- Both copies of the sorted entries: key, mark (1 on the first copy, 0 on the second, whose keys change sign), weight. -/
def doubled (x : FVec F (SR 256) .f32 × FVec F (SR 256) .f32) :
    FVec F (SR 512) .f32 × FVec F (SR 512) .f32 × FVec F (SR 512) .f32 :=
  ⟨stack x.1 (subf (cst (SR 256) 0x00000000#32) x.1),
   stack (cst (SR 256) 0x3F800000#32) (subf (cst (SR 256) 0x3F800000#32) (cst (SR 256) 0x3F800000#32)),
   stack x.2 x.2⟩

/-- The second weight of each entry: the weight times the exponential of the key with its sign undone. -/
def second (x : FVec F (SR 512) .f32 × FVec F (SR 512) .f32 × FVec F (SR 512) .f32) : FVec F (SR 512) .f32 :=
  mulf x.2.2 (exp (mulf x.1 (subf (cst (SR 512) 0x3F800000#32) (mulf (cst (SR 512) 0x40000000#32) x.2.1))))

/-- The total of the marked weights, less twice the marked weights up to the entry, times the entry's weight. -/
def signedPart (f u : FVec F (SR 512) .f32) : FVec F (SR 512) .f32 :=
  mulf u (subf (broadcastTo (SR 512) (total 512 (mulf u f)) (broadcasts_one 512))
    (mulf (cst (SR 512) 0x40000000#32) (scan 512 16 (mulf u f))))

/-- The sum over the merged entries. -/
def crossSum (x : FVec F (SR 512) .f32 × FVec F (SR 512) .f32 × FVec F (SR 512) .f32) : FVec F SOne .f32 :=
  total 512 (mulf (subf (cst (SR 512) 0x3F800000#32) x.2.1)
    (subf (signedPart x.2.1 x.2.2) (signedPart x.2.1 (second x))))

/-- What the launch leaves: the first launch's number and the weighted sum. -/
def result (k u : FVec F (SR 250) .f32) (p : FVec F SOne .f32) : FVec F SOne .f32 :=
  addf (shapeCast SOne p rfl)
    (mulf (cst SOne 0x3983126F#32) (crossSum (merge2 512 16 (doubled (sortAll 256 14 (keys0 k, weights0 u))))))

end Cert.L1
-- ==== Proof.L1Run.lean ====
/-
  What the second launch's body stores: one number, the operations of `L1.result` applied to the two halves of the array it
  reads and to the first launch's number.
-/
module

public import proofs.«01_k».proof.Proof.L1Ops
public import proofs.«01_k».proof.Proof.Gen.KernelIdeal.Frame

@[expose] public section

set_option maxRecDepth 65536

namespace Cert.KernelIdeal.Gen

open Idealize.ShloMosaic Idealize.ShloMosaic.TcCoe Idealize.ShloMosaic.Tactic
open Idealize.SL Idealize.SL.RA Idealize.SL.BI Idealize.SL.Sem

variable {F : FTy → Type} [FloatOps F] [Named F]

set_option maxHeartbeats 1000000 in
/-- The body's one store, as the run finds it, is `L1.result` of what the body loads. -/
theorem pieces1 (c : Dev nD) (arg0 : Memref sig .tc .vmem S500x128 .f32) (harg0 : arg0.IsWhole) (arg1 : Memref sig .tc .vmem S1x1 .f32) (harg1 : arg1.IsWhole) (arg2 : Memref sig .tc .vmem S1x1 .f32) (harg2 : arg2.IsWhole) (arg3 : Memref sig .tc .vmem S8x128 .f32) (harg3 : arg3.IsWhole)
    (x0 : Vec F S500x128 .f32) (x1 : Vec F S1x1 .f32) :
    (kernelRun1_A c arg0 harg0 arg1 harg1 arg2 harg2 arg3 harg3 x0 x1).1 =
      [⟨Rect.unit ![0, 0] ![1, 1] inb_S1x1_S1x1_0_0,
        L1.result
          (View.readAt (Elt F) arg0.view (Rect.unit (s := S500x128) ![250, 0] S250x128.size inb_S500x128_S250x128_250_0).toLoadRect (harg0.unread x0))
          (View.readAt (Elt F) arg0.view (Rect.unit (s := S500x128) ![0, 0] S250x128.size inb_S500x128_S250x128_0_0).toLoadRect (harg0.unread x0))
          (View.readAt (Elt F) arg1.view (Rect.unit (s := S1x1) ![0, 0] S1x1.size inb_S1x1_S1x1_0_0).toLoadRect (harg1.unread x1))⟩] := by
  sl_kernel_rfl

end Cert.KernelIdeal.Gen
-- ==== Proof.PartOps.lean ====
/-
  The first launch's operations, written once per temperature: log-softmax of the scaled logits, the sums, and the
  differences of Gram matrices. What the launch stores is exactly this text.
-/
module

public import proofs.«01_k».proof.Proof.Gen.KernelIdeal.Frame

@[expose] public section

set_option maxRecDepth 16384

noncomputable section

namespace Cert.Part

open Idealize.ShloMosaic Cert.KernelIdeal Cert.KernelIdeal.Gen

variable {F : FTy → Type} [FloatOps F] [Named F]

/-- The logits times the inverse temperature. -/
def scaled (x : FVec F S64x100 .f32) (c : F .f32) : FVec F S64x100 .f32 := mulf x (broadcast S64x100 c)

/-- One number per row, over the row. -/
def alongRows (y : FVec F S64 .f32) : FVec F S64x1 .f32 := shapeCast S64x1 y shapeCasts_S64_S64x1

/-- The logits less their row's maximum. -/
def centred (x : FVec F S64x100 .f32) : FVec F S64x100 .f32 :=
  subf x (broadcastTo S64x100 (alongRows (multiReduction .maximumf [1] S64 x 0xFF800000#32 reduces_S64x100_S64 (.inl rfl) rfl))
    broadcasts_S64x1_S64x100)

/-- The log-softmax of each row. -/
def logSoftmax (x : FVec F S64x100 .f32) : FVec F S64x100 .f32 :=
  subf (centred x) (broadcastTo S64x100
    (log (alongRows (multiReduction .add [1] S64 (exp (centred x)) 0x00000000#32 reduces_S64x100_S64 (.inl rfl) rfl)))
    broadcasts_S64x1_S64x100)

/-- The number in a one-element vector, as a 1 × 1 vector. -/
def number (y : FVec F S1 .f32) : FVec F S1x1 .f32 :=
  broadcast S1x1 (extractAt ![0, 0, 0] (shapeCast S1x1x1 y shapeCasts_S1_S1x1x1) inpos_S1x1x1_p0_0_0)

/-- The sum of a logits-shaped array. -/
def sumAll (x : FVec F S64x100 .f32) : FVec F S1x1 .f32 :=
  number (multiReduction .add [1, 2] S1 (shapeCast S1x64x100 x shapeCasts_S64x100_S1x64x100) 0x00000000#32 reduces_S1x64x100_S1
    (.inl rfl) rfl)

/-- The sum of the squares of a 64 × 64 array. -/
def squares64 (g : FVec F S64x64 .f32) : FVec F S1x1 .f32 :=
  number (multiReduction .add [1, 2] S1 (shapeCast S1x64x64 (mulf g g) shapeCasts_S64x64_S1x64x64) 0x00000000#32 reduces_S1x64x64_S1
    (.inl rfl) rfl)

/-- The sum of the squares of a 100 × 100 array. -/
def squares100 (g : FVec F S100x100 .f32) : FVec F S1x1 .f32 :=
  number (multiReduction .add [1, 2] S1 (shapeCast S1x100x100 (mulf g g) shapeCasts_S100x100_S1x100x100) 0x00000000#32
    reduces_S1x100x100_S1 (.inl rfl) rfl)

/-- A constant number. -/
def num (b : BitVec 32) : FVec F S1x1 .f32 := broadcast S1x1 (Scalar.ofBits .f32 b)

/-- The cross entropy: minus the sum of the picked log-softmax entries, over 64. -/
def cross (x : FVec F S64x100 .f32) (t : IVec S64x1 32) : FVec F S1x1 .f32 :=
  divf (subf (num 0x00000000#32) (sumAll (select
    (cmpi .eq (iota .tc S64x100 32 [1] iota_S64x100_d1_w32)
      (broadcastTo S64x100 (shapeCast S64x1 t shapeCasts_S64x1_S64x1) broadcasts_S64x1_S64x100))
    (logSoftmax x) (broadcast S64x100 (Scalar.ofBits .f32 0x00000000#32))))) (num 0x42800000#32)

/-- One temperature's two terms added: weight `w` on the divergence of teacher and student. -/
def addDivergence (w : BitVec 32) (ce kd : FVec F S1x1 .f32) (lq lp : FVec F S64x100 .f32) : FVec F S1x1 .f32 :=
  addf (addf kd (mulf (divf (sumAll (mulf (exp lp) (subf lp lq))) (num 0x45C80000#32)) (num w))) (mulf ce (num 0x3E99999A#32))

/-- A sum of products added. -/
def addDot (a : FVec F S1x1 .f32) (x y : FVec F S64x100 .f32) : FVec F S1x1 .f32 := addf a (sumAll (mulf x y))

/-- The difference of the Gram matrices of the rows. -/
def gramRows (p q : FVec F S64x100 .f32) : FVec F S64x64 .f32 :=
  subf (matmul dot_S64x100_S64x100_S64x64_1_1_0_0_n_n none p p (constant S64x64 .f32 0x00000000#32))
    (matmul dot_S64x100_S64x100_S64x64_1_1_0_0_n_n none q q (constant S64x64 .f32 0x00000000#32))

/-- The difference of the Gram matrices of the columns. -/
def gramColumns (p q : FVec F S64x100 .f32) : FVec F S100x100 .f32 :=
  subf (matmul dot_S64x100_S64x100_S100x100_0_0_1_1_n_n none p p (constant S100x100 .f32 0x00000000#32))
    (matmul dot_S64x100_S64x100_S100x100_0_0_1_1_n_n none q q (constant S100x100 .f32 0x00000000#32))

/-- One temperature's Gram terms added. -/
def addGrams (a : FVec F S1x1 .f32) (p q : FVec F S64x100 .f32) : FVec F S1x1 .f32 :=
  addf (addf a (squares64 (gramRows p q))) (squares100 (gramColumns p q))

/-- The inverse of temperature `k + 1`. -/
def inverse : Fin 5 → F .f32
  | 0 => Scalar.ofBits .f32 0x3F800000#32
  | 1 => Scalar.ofBits .f32 0x3F000000#32
  | 2 => Named.named Cert.KernelIdeal.κ "third" 0x3EAAAAAB#32
  | 3 => Scalar.ofBits .f32 0x3E800000#32
  | 4 => Named.named Cert.KernelIdeal.κ "fifth" 0x3E4CCCCD#32

/-- The log-softmax at temperature `k + 1`. -/
def logs (x : FVec F S64x100 .f32) (k : Fin 5) : FVec F S64x100 .f32 := logSoftmax (scaled x (inverse k))

/-- The softmax at temperature `k + 1`. -/
def probs (x : FVec F S64x100 .f32) (k : Fin 5) : FVec F S64x100 .f32 := exp (logs x k)

/-- The divergences and cross entropies over the five temperatures. -/
def divergences (x0 x1 : FVec F S64x100 .f32) (x2 : IVec S64x1 32) : FVec F S1x1 .f32 :=
  let ce := cross x0 x2
  addDivergence 0x418C0000#32 ce (addDivergence 0x41333333#32 ce (addDivergence 0x40C9999A#32 ce (addDivergence 0x40333333#32 ce
    (addDivergence 0x3F333333#32 ce (num 0x00000000#32) (logs x0 0) (logs x1 0)) (logs x0 1) (logs x1 1)) (logs x0 2) (logs x1 2))
    (logs x0 3) (logs x1 3)) (logs x0 4) (logs x1 4)

/-- A sum of products over the five temperatures. -/
def dots (x y : Fin 5 → FVec F S64x100 .f32) : FVec F S1x1 .f32 :=
  addDot (addDot (addDot (addDot (addDot (num 0x00000000#32) (x 0) (y 0)) (x 1) (y 1)) (x 2) (y 2)) (x 3) (y 3)) (x 4) (y 4)

/-- The Gram terms over the five temperatures. -/
def grams (p q : Fin 5 → FVec F S64x100 .f32) : FVec F S1x1 .f32 :=
  addGrams (addGrams (addGrams (addGrams (addGrams (num 0x00000000#32) (p 0) (q 0)) (p 1) (q 1)) (p 2) (q 2)) (p 3) (q 3)) (p 4) (q 4)

/-- The number the launch stores. -/
def part (x0 x1 : FVec F S64x100 .f32) (x2 : IVec S64x1 32) : FVec F S1x1 .f32 :=
  let tt := dots (probs x1) (probs x1)
  let ss := dots (probs x0) (probs x0)
  let ts := dots (probs x1) (probs x0)
  addf (addf (divergences x0 x1 x2)
      (mulf (num 0x3983126F#32) (addf (subf (mulf tt tt) (mulf (mulf (num 0x40000000#32) ts) ts)) (mulf ss ss))))
    (grams (probs x1) (probs x0))

/-- The log-ratio of teacher and student at temperature `k + 1`. -/
def ratios (x0 x1 : FVec F S64x100 .f32) (k : Fin 5) : FVec F S64x100 .f32 := subf (logs x1 k) (logs x0 k)

/-- The first output of the launch is `part`. -/
theorem out0_3_eq (x0 x1 : Vec F S64x100 .f32) (x2 : Vec F S64x1 .i32) :
    out0_3 x0 x1 x2 = View.canon [⟨r0_12, part (View.ld x0 r0_0) (View.ld x1 r0_0) (View.ld x2 r0_1)⟩] := rfl

/-- The second output is the five softmaxes of the teacher above the five log-ratios. -/
theorem out0_4_eq (x0 x1 : Vec F S64x100 .f32) (x2 : Vec F S64x1 .i32) :
    out0_4 x0 x1 x2 = View.canon [⟨r0_11, ratios (View.ld x0 r0_0) (View.ld x1 r0_0) 4⟩, ⟨r0_10, probs (View.ld x1 r0_0) 4⟩,
      ⟨r0_9, ratios (View.ld x0 r0_0) (View.ld x1 r0_0) 3⟩, ⟨r0_8, probs (View.ld x1 r0_0) 3⟩,
      ⟨r0_7, ratios (View.ld x0 r0_0) (View.ld x1 r0_0) 2⟩, ⟨r0_6, probs (View.ld x1 r0_0) 2⟩,
      ⟨r0_5, ratios (View.ld x0 r0_0) (View.ld x1 r0_0) 1⟩, ⟨r0_4, probs (View.ld x1 r0_0) 1⟩,
      ⟨r0_3, ratios (View.ld x0 r0_0) (View.ld x1 r0_0) 0⟩, ⟨r0_2, probs (View.ld x1 r0_0) 0⟩] := rfl

end Cert.Part
-- ==== Proof.Consts.lean ====
/-
  Sums of real numbers among the extended reals, and the numbers the programs' constants denote.
-/
module

public import Idealize.ShloMosaic.PureOps.Ideal.Laws

@[expose] public section

open scoped BigOperators

namespace Cert

/-- A sum of reals, read among the extended reals, is the sum of the reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert

namespace Cert.Consts

open Idealize.ShloMosaic

/-- `+0.0` denotes 0. -/
theorem ofBits_zero : Ideal.ofBits .f32 0x00000000#32 = 0 := by
  simp [Ideal.ofBits, Ideal.ieee]

/-- `1.0`. -/
theorem ofBits_one : Ideal.ofBits .f32 0x3F800000#32 = ((1 : ℝ) : EReal) := by
  simp [Ideal.ofBits, Ideal.ieee, -EReal.coe_mul]; norm_num

/-- `2.0`. -/
theorem ofBits_two : Ideal.ofBits .f32 0x40000000#32 = ((2 : ℝ) : EReal) := by
  simp [Ideal.ofBits, Ideal.ieee, -EReal.coe_mul]; norm_num

/-- `3.0`. -/
theorem ofBits_three : Ideal.ofBits .f32 0x40400000#32 = ((3 : ℝ) : EReal) := by
  simp [Ideal.ofBits, Ideal.ieee, -EReal.coe_mul]; norm_num

/-- `4.0`. -/
theorem ofBits_four : Ideal.ofBits .f32 0x40800000#32 = ((4 : ℝ) : EReal) := by
  simp [Ideal.ofBits, Ideal.ieee, -EReal.coe_mul]; norm_num

/-- `5.0`. -/
theorem ofBits_five : Ideal.ofBits .f32 0x40A00000#32 = ((5 : ℝ) : EReal) := by
  simp [Ideal.ofBits, Ideal.ieee, -EReal.coe_mul]; norm_num

/-- `0.5`. -/
theorem ofBits_half : Ideal.ofBits .f32 0x3F000000#32 = ((2⁻¹ : ℝ) : EReal) := by
  simp [Ideal.ofBits, Ideal.ieee, -EReal.coe_mul]; norm_num

/-- `0.25`. -/
theorem ofBits_quarter : Ideal.ofBits .f32 0x3E800000#32 = ((4⁻¹ : ℝ) : EReal) := by
  simp [Ideal.ofBits, Ideal.ieee, -EReal.coe_mul]; norm_num

/-- `64.0`, the number of rows. -/
theorem ofBits_64 : Ideal.ofBits .f32 0x42800000#32 = ((64 : ℝ) : EReal) := by
  simp [Ideal.ofBits, Ideal.ieee, -EReal.coe_mul]; norm_num

/-- `6400.0`, the number of entries. -/
theorem ofBits_6400 : Ideal.ofBits .f32 0x45C80000#32 = ((6400 : ℝ) : EReal) := by
  simp [Ideal.ofBits, Ideal.ieee, -EReal.coe_mul]; norm_num

/-- Minus infinity. -/
theorem ofBits_neg_inf : Ideal.ofBits .f32 0xFF800000#32 = ⊥ := by
  simp [Ideal.ofBits, Ideal.ieee]

/-- The loss's weight 0.00025 is some real. -/
theorem ofBits_lambda : ∃ r : ℝ, Ideal.ofBits .f32 0x3983126F#32 = (r : EReal) := by
  simp [Ideal.ofBits, Ideal.ieee, -EReal.coe_mul]

/-- The weight 0.3 is some real. -/
theorem ofBits_beta : ∃ r : ℝ, Ideal.ofBits .f32 0x3E99999A#32 = (r : EReal) := by
  simp [Ideal.ofBits, Ideal.ieee, -EReal.coe_mul]

/-- The weight 0.7 is some real. -/
theorem ofBits_alpha1 : ∃ r : ℝ, Ideal.ofBits .f32 0x3F333333#32 = (r : EReal) := by
  simp [Ideal.ofBits, Ideal.ieee, -EReal.coe_mul]

/-- The weight 2.8 is some real. -/
theorem ofBits_alpha2 : ∃ r : ℝ, Ideal.ofBits .f32 0x40333333#32 = (r : EReal) := by
  simp [Ideal.ofBits, Ideal.ieee, -EReal.coe_mul]

/-- The weight 6.3 is some real. -/
theorem ofBits_alpha3 : ∃ r : ℝ, Ideal.ofBits .f32 0x40C9999A#32 = (r : EReal) := by
  simp [Ideal.ofBits, Ideal.ieee, -EReal.coe_mul]

/-- The weight 11.2 is some real. -/
theorem ofBits_alpha4 : ∃ r : ℝ, Ideal.ofBits .f32 0x41333333#32 = (r : EReal) := by
  simp [Ideal.ofBits, Ideal.ieee, -EReal.coe_mul]

/-- The weight 17.5 is some real. -/
theorem ofBits_alpha5 : ∃ r : ℝ, Ideal.ofBits .f32 0x418C0000#32 = (r : EReal) := by
  simp [Ideal.ofBits, Ideal.ieee, -EReal.coe_mul]

/-- The padding key is some real. -/
theorem ofBits_pad : ∃ r : ℝ, Ideal.ofBits .f32 0x7149F2CA#32 = (r : EReal) := by
  simp [Ideal.ofBits, Ideal.ieee, -EReal.coe_mul]

end Cert.Consts
-- ==== Proof.Loss.lean ====
/-
  The loss over the real numbers, as both programs are shown to compute it.
-/
module

public import proofs.«01_k».proof.Proof.Consts

@[expose] public section

open scoped BigOperators

noncomputable section

namespace Cert

open Idealize.ShloMosaic

/-- Logits: 64 rows of 100 classes. -/
abbrev Mat := Fin 64 → Fin 100 → ℝ

/-- The log-softmax of a row. -/
def lsm (x : Fin 100 → ℝ) (c : Fin 100) : ℝ := x c - Real.log (∑ d, Real.exp (x d))

/-- The log-softmax at temperature `k + 1`. -/
def tempLogs (A : Mat) (k : Fin 5) : Mat := fun b => lsm fun c => A b c / ((k.val : ℝ) + 1)

/-- The softmax at temperature `k + 1`. -/
def tempProbs (A : Mat) (k : Fin 5) : Mat := fun b c => Real.exp (tempLogs A k b c)

/-- The cross entropy of the student's logits with the target classes. -/
def crossR (A : Mat) (τ : Fin 64 → Fin 100) : ℝ := -(∑ b, lsm (A b) (τ b)) / 64

/-- The divergence of the teacher `T` from the student `A` at temperature `k + 1`. -/
def klR (A T : Mat) (k : Fin 5) : ℝ := (∑ b, ∑ c, tempProbs T k b c * (tempLogs T k b c - tempLogs A k b c)) / 6400

/-- The scalar product of two stacks. -/
def dotR (P Q : Fin 5 → Mat) : ℝ := ∑ k, ∑ b, ∑ c, P k b c * Q k b c

/-- An entry of the difference of the Gram matrices of the rows. -/
def gramRowsR (P Q : Mat) (i j : Fin 64) : ℝ := (∑ c, P i c * P j c) - ∑ c, Q i c * Q j c

/-- An entry of the difference of the Gram matrices of the columns. -/
def gramColumnsR (P Q : Mat) (i j : Fin 100) : ℝ := (∑ b, P b i * P b j) - ∑ b, Q b i * Q b j

/-- The squares of both differences, at one temperature. -/
def squaresRowsR (P Q : Mat) : ℝ := ∑ i, ∑ j, gramRowsR P Q i j * gramRowsR P Q i j

/-- The squares for the columns. -/
def squaresColumnsR (P Q : Mat) : ℝ := ∑ i, ∑ j, gramColumnsR P Q i j * gramColumnsR P Q i j

/-- The squares over all temperatures. -/
def gramsR (P Q : Fin 5 → Mat) : ℝ := ∑ k, (squaresRowsR (P k) (Q k) + squaresColumnsR (P k) (Q k))

/-- A place in a stack. -/
abbrev Place := Fin 5 × Fin 64 × Fin 100

/-- The sum over all pairs of places of the absolute differences of the products. -/
def pairsR (P Q : Fin 5 → Mat) : ℝ :=
  ∑ x : Place, ∑ y : Place, |P x.1 x.2.1 x.2.2 * P y.1 y.2.1 y.2.2 - Q x.1 x.2.1 x.2.2 * Q y.1 y.2.1 y.2.2|

/-- The divergences and cross entropies, in the order in which both programs add them. -/
def kdE (ce : ℝ) (kl : Fin 5 → ℝ) : EReal :=
  ((((((((((0 : EReal) + (kl 0 : EReal) * Ideal.ofBits .f32 0x3F333333#32) + (ce : EReal) * Ideal.ofBits .f32 0x3E99999A#32)
    + (kl 1 : EReal) * Ideal.ofBits .f32 0x40333333#32) + (ce : EReal) * Ideal.ofBits .f32 0x3E99999A#32)
    + (kl 2 : EReal) * Ideal.ofBits .f32 0x40C9999A#32) + (ce : EReal) * Ideal.ofBits .f32 0x3E99999A#32)
    + (kl 3 : EReal) * Ideal.ofBits .f32 0x41333333#32) + (ce : EReal) * Ideal.ofBits .f32 0x3E99999A#32)
    + (kl 4 : EReal) * Ideal.ofBits .f32 0x418C0000#32) + (ce : EReal) * Ideal.ofBits .f32 0x3E99999A#32

/-- The squared scalar products. -/
def l2E (tt ss ts : ℝ) : EReal :=
  Ideal.ofBits .f32 0x3983126F#32 * ((((tt : ℝ) : EReal) * ((tt : ℝ) : EReal)
    - (Ideal.ofBits .f32 0x40000000#32 * ((ts : ℝ) : EReal)) * ((ts : ℝ) : EReal)) + ((ss : ℝ) : EReal) * ((ss : ℝ) : EReal))

/-- The loss without the pairs. -/
def partE (A T : Mat) (τ : Fin 64 → Fin 100) : EReal :=
  (kdE (crossR A τ) (klR A T) + l2E (dotR (tempProbs T) (tempProbs T)) (dotR (tempProbs A) (tempProbs A)) (dotR (tempProbs T) (tempProbs A)))
    + ((gramsR (tempProbs T) (tempProbs A) : ℝ) : EReal)

/-- The loss. -/
def lossE (A T : Mat) (τ : Fin 64 → Fin 100) : EReal :=
  partE A T τ + Ideal.ofBits .f32 0x3983126F#32 * ((pairsR (tempProbs T) (tempProbs A) : ℝ) : EReal)

/-! ## Softmax through the shifted exponentials -/

theorem sum_exp_pos (x : Fin 100 → ℝ) : 0 < ∑ d, Real.exp (x d) :=
  Finset.sum_pos (fun _ _ => Real.exp_pos _) ⟨0, Finset.mem_univ 0⟩

theorem sum_exp_shift (x : Fin 100 → ℝ) (m : ℝ) : ∑ d, Real.exp (x d - m) = (∑ d, Real.exp (x d)) / Real.exp m := by
  rw [Finset.sum_div]; exact Finset.sum_congr rfl fun d _ => Real.exp_sub _ _

/-- The log-softmax of a shifted row is the row's. -/
theorem lsm_shift (x : Fin 100 → ℝ) (m : ℝ) (c : Fin 100) : x c - m - Real.log (∑ d, Real.exp (x d - m)) = lsm x c := by
  rw [sum_exp_shift, Real.log_div (sum_exp_pos x).ne' (Real.exp_pos m).ne', Real.log_exp]; unfold lsm; ring

/-- The softmax of a shifted row is the exponential of the log-softmax. -/
theorem softmax_shift (x : Fin 100 → ℝ) (m : ℝ) (c : Fin 100) :
    Real.exp (x c - m) / ∑ d, Real.exp (x d - m) = Real.exp (lsm x c) := by
  rw [sum_exp_shift, Real.exp_sub]; unfold lsm
  rw [Real.exp_sub, Real.exp_log (sum_exp_pos x), div_div_div_cancel_right₀ (Real.exp_pos m).ne']

/-- A row's maximum, started at minus infinity, is some real. -/
theorem fold_max_real {ι : Type} (s : Finset ι) (hs : s.Nonempty) (f : ι → EReal) (hf : ∀ i, ∃ r : ℝ, f i = (r : EReal)) :
    ∃ r : ℝ, s.fold max (⊥ : EReal) f = (r : EReal) := by
  classical
  induction hs using Finset.Nonempty.cons_induction with
  | singleton a => obtain ⟨r, hr⟩ := hf a; exact ⟨r, by rw [Finset.fold_singleton, hr, max_bot_right]⟩
  | cons a s ha hs ih =>
    obtain ⟨r, hr⟩ := hf a
    obtain ⟨q, hq⟩ := ih
    exact ⟨max r q, by rw [Finset.fold_cons, hr, hq]; exact (EReal.coe_strictMono.monotone.map_max).symm⟩

/-- The logarithm of a positive real. -/
theorem log_pos_coe {r : ℝ} (h : 0 < r) : Ideal.log ((r : ℝ) : EReal) = ((Real.log r : ℝ) : EReal) := by
  rw [Ideal.log_coe, if_neg (not_le.2 h)]

/-- Division by a real that is not zero. -/
theorem div_coe_coe (a : ℝ) {b : ℝ} (h : b ≠ 0) : Ideal.div ((a : ℝ) : EReal) ((b : ℝ) : EReal) = ((a / b : ℝ) : EReal) := by
  unfold Ideal.div
  rw [if_neg (by exact_mod_cast h), ← EReal.coe_inv, ← EReal.coe_mul]; rfl

end Cert
-- ==== Proof.PartValue.lean ====
/-
  The first launch's operations on real logits.
-/
module

public import proofs.«01_k».proof.Proof.PartOps
public import proofs.«01_k».proof.Proof.Loss
public import Idealize.ShloMosaic.Lib.Pipeline.Value
public import Idealize.ShloMosaic.Lib.Pointwise.Reduce
public import Idealize.ShloMosaic.Lib.MatmulPlain

@[expose] public section

set_option maxRecDepth 16384

open scoped BigOperators

noncomputable section

namespace Cert.Part

open Idealize.ShloMosaic Cert.KernelIdeal Cert.KernelIdeal.Gen

/-- The array holds the real numbers `A`. -/
def Holds {n m : ℕ} (x : (⟨2, ![n, m]⟩ : Shape).Idx → EReal) (A : Fin n → Fin m → ℝ) : Prop :=
  ∀ i j, x (ValueIdx.ix2 i j) = ((A i j : ℝ) : EReal)

variable {x y : FVec Ideal S64x100 .f32} {A B : Mat}

theorem alongRows_apply (y : FVec Ideal S64 .f32) (i : Fin 64) (u : Fin 1) : alongRows y (ValueIdx.ix2 i u) = y (ValueIdx.ix1 i) := by
  refine shapeCast_apply y _ _ _ ?_
  rw [Shape.rowMajor_val_two, Shape.rowMajor_val_one]
  show i.val = i.val * 1 + u.val
  omega

theorem spread_apply (z : FVec Ideal S64x1 .f32) (i : Fin 64) (j : Fin 100) :
    broadcastTo S64x100 z broadcasts_S64x1_S64x100 (ValueIdx.ix2 i j) = z (ValueIdx.ix2 i 0) := by
  refine broadcastTo_apply z _ _ _ fun a => ?_
  match a with
  | ⟨0, _⟩ => rfl
  | ⟨1, _⟩ => rfl

theorem centred_holds (hx : Holds x A) : ∃ m : Fin 64 → ℝ, Holds (centred x) fun i j => A i j - m i := by
  have key : ∀ i : Fin 64, ∃ r : ℝ, multiReduction .maximumf [1] S64 x 0xFF800000#32 reduces_S64x100_S64 (.inl rfl) rfl (ValueIdx.ix1 i)
      = (r : EReal) := by
    intro i
    obtain ⟨r, hr⟩ := fold_max_real Finset.univ ⟨(⟨0, by decide⟩ : Fin (S64x100.size 1)), Finset.mem_univ _⟩
      (x ∘ (by decide : S64x100.Reduces [1] S64).lift (ValueIdx.ix1 i)) fun d => ⟨_, (congrArg x (ValueIdx.eq_ix2 _)).trans (hx _ _)⟩
    refine ⟨r, (Ideal.multiReduction_maximumf_single (φ := .f32) x 0xFF800000#32 reduces_S64x100_S64 (.inl rfl) rfl _).trans ?_⟩
    rw [show FloatOps.ofBits (F := Ideal) .f32 0xFF800000#32 = (⊥ : EReal) from Consts.ofBits_neg_inf]
    exact hr
  choose m hm using key
  refine ⟨m, fun i j => ?_⟩
  show x (ValueIdx.ix2 i j) - broadcastTo S64x100 _ broadcasts_S64x1_S64x100 (ValueIdx.ix2 i j) = _
  rw [spread_apply, alongRows_apply, hm, hx, EReal.coe_sub]

theorem rowSum_holds (hx : Holds x A) (i : Fin 64) :
    multiReduction .add [1] S64 x 0x00000000#32 reduces_S64x100_S64 (.inl rfl) rfl (ValueIdx.ix1 i) = ((∑ j, A i j : ℝ) : EReal) := by
  refine (Ideal.reduceAdd_r2_a1 reduces_S64x100_S64 x (ValueIdx.ix1 i)).trans ?_
  rw [coe_sum]
  exact Finset.sum_congr rfl fun j _ => hx i j

theorem exp_holds (hx : Holds x A) : Holds (exp x) fun i j => Real.exp (A i j) := fun i j => by
  show Ideal.exp (x (ValueIdx.ix2 i j)) = _
  rw [hx, Ideal.exp_coe]

theorem mulf_holds (hx : Holds x A) (hy : Holds y B) : Holds (mulf x y) fun i j => A i j * B i j := fun i j => by
  show x (ValueIdx.ix2 i j) * y (ValueIdx.ix2 i j) = _
  rw [hx, hy, EReal.coe_mul]

theorem subf_holds (hx : Holds x A) (hy : Holds y B) : Holds (subf x y) fun i j => A i j - B i j := fun i j => by
  show x (ValueIdx.ix2 i j) - y (ValueIdx.ix2 i j) = _
  rw [hx, hy, EReal.coe_sub]

theorem logSoftmax_holds (hx : Holds x A) : Holds (logSoftmax x) fun i => lsm (A i) := by
  obtain ⟨m, hm⟩ := centred_holds hx
  intro i j
  show centred x (ValueIdx.ix2 i j) - broadcastTo S64x100 _ broadcasts_S64x1_S64x100 (ValueIdx.ix2 i j) = _
  rw [spread_apply]
  show _ - Ideal.log (alongRows (multiReduction .add [1] S64 (exp (centred x)) 0x00000000#32 reduces_S64x100_S64 (.inl rfl) rfl)
    (ValueIdx.ix2 i 0) : EReal) = _
  rw [alongRows_apply, rowSum_holds (exp_holds hm), hm, log_pos_coe (sum_exp_pos fun j => A i j - m i), ← EReal.coe_sub, lsm_shift]

theorem inverse_eq (k : Fin 5) : inverse (F := Ideal) k = (((k.val : ℝ) + 1)⁻¹ : ℝ) := by
  fin_cases k
  · show Ideal.ofBits .f32 0x3F800000#32 = _; rw [Consts.ofBits_one]; norm_num
  · show Ideal.ofBits .f32 0x3F000000#32 = _; rw [Consts.ofBits_half]; norm_num
  · show ((3⁻¹ : ℝ) : EReal) = _; norm_num
  · show Ideal.ofBits .f32 0x3E800000#32 = _; rw [Consts.ofBits_quarter]; norm_num
  · show ((5⁻¹ : ℝ) : EReal) = _; norm_num

theorem logs_holds (hx : Holds x A) (k : Fin 5) : Holds (logs x k) (tempLogs A k) := by
  refine logSoftmax_holds (A := fun i j => A i j / ((k.val : ℝ) + 1)) fun i j => ?_
  show x (ValueIdx.ix2 i j) * inverse (F := Ideal) k = _
  rw [hx, inverse_eq, ← EReal.coe_mul, ← div_eq_mul_inv]

theorem probs_holds (hx : Holds x A) (k : Fin 5) : Holds (probs x k) (tempProbs A k) := exp_holds (logs_holds hx k)

/-! ## Sums -/

theorem number_sum {s t : Shape} {axes : List (Fin t.rank)} (x : FVec Ideal s .f32) (hc : s.ShapeCasts t) (hr : t.Reduces axes S1)
    (j : S1x1.Idx) :
    number (multiReduction .add axes S1 (shapeCast t x hc) 0x00000000#32 hr (.inl rfl) rfl) j = ∑ i, x i := by
  refine (Ideal.multiReduction_add_total (φ := .f32) _ 0x00000000#32 hr (fun b => by match b with | ⟨0, _⟩ => rfl) (.inl rfl) rfl _).trans ?_
  unfold shapeCast
  exact Equiv.sum_comp (Shape.reshapeEquiv _) x

theorem sum_holds {n m : ℕ} {x : (⟨2, ![n, m]⟩ : Shape).Idx → EReal} {A : Fin n → Fin m → ℝ} (hx : Holds x A) :
    ∑ i, x i = ((∑ i, ∑ j, A i j : ℝ) : EReal) := by
  rw [ValueIdx.sum_idx2, coe_sum]
  refine Finset.sum_congr rfl fun i _ => ?_
  rw [coe_sum]
  exact Finset.sum_congr rfl fun j _ => hx i j

theorem sumAll_holds (hx : Holds x A) (j : S1x1.Idx) : sumAll x j = ((∑ i, ∑ j, A i j : ℝ) : EReal) :=
  (number_sum x _ _ j).trans (sum_holds hx)

theorem num_apply (b : BitVec 32) (j : S1x1.Idx) : (num b : FVec Ideal S1x1 .f32) j = Ideal.ofBits .f32 b := rfl

theorem dots_eq {x y : Fin 5 → FVec Ideal S64x100 .f32} {P Q : Fin 5 → Mat} (hx : ∀ k, Holds (x k) (P k)) (hy : ∀ k, Holds (y k) (Q k))
    (j : S1x1.Idx) : dots x y j = ((dotR P Q : ℝ) : EReal) := by
  have h : ∀ k, sumAll (mulf (x k) (y k)) j = ((∑ b, ∑ c, P k b c * Q k b c : ℝ) : EReal) := fun k => sumAll_holds (mulf_holds (hx k) (hy k)) j
  show ((((Ideal.ofBits .f32 0x00000000#32 + sumAll (mulf (x 0) (y 0)) j) + sumAll (mulf (x 1) (y 1)) j) + sumAll (mulf (x 2) (y 2)) j)
    + sumAll (mulf (x 3) (y 3)) j) + sumAll (mulf (x 4) (y 4)) j = _
  rw [h, h, h, h, h, Consts.ofBits_zero, zero_add]
  unfold dotR
  rw [Fin.sum_univ_five]
  simp only [EReal.coe_add]

/-! ## Gram matrices -/

theorem rows_dot (x : FVec Ideal S64x100 .f32) (hx : Holds x A) (i j : Fin 64) :
    matmul dot_S64x100_S64x100_S64x64_1_1_0_0_n_n none x x (constant S64x64 .f32 0x00000000#32) (ValueIdx.ix2 i j) =
      ((∑ c, A i c * A j c : ℝ) : EReal) := by
  refine (Ideal.matmul_constant_zero_apply (φ₁ := .f32) (φ₂ := .f32) dot_S64x100_S64x100_S64x64_1_1_0_0_n_n none x x (ValueIdx.ix2 i j)).trans ?_
  rw [← Equiv.sum_comp (ValueIdx.contrEquiv1 dot_S64x100_S64x100_S64x64_1_1_0_0_n_n 100 rfl rfl).symm, coe_sum]
  refine Finset.sum_congr rfl fun c _ => ?_
  have hk := ValueIdx.contrEquiv1_symm_val dot_S64x100_S64x100_S64x64_1_1_0_0_n_n 100 rfl rfl c
  have el : dot_S64x100_S64x100_S64x64_1_1_0_0_n_n.lhsIdx (ValueIdx.ix2 i j)
      ((ValueIdx.contrEquiv1 dot_S64x100_S64x100_S64x64_1_1_0_0_n_n 100 rfl rfl).symm c) = ValueIdx.ix2 i c := by
    funext a; apply Fin.ext
    match a with
    | ⟨0, _⟩ => rfl
    | ⟨1, _⟩ => exact hk
  have er : dot_S64x100_S64x100_S64x64_1_1_0_0_n_n.rhsIdx (ValueIdx.ix2 i j)
      ((ValueIdx.contrEquiv1 dot_S64x100_S64x100_S64x64_1_1_0_0_n_n 100 rfl rfl).symm c) = ValueIdx.ix2 j c := by
    funext a; apply Fin.ext
    match a with
    | ⟨0, _⟩ => rfl
    | ⟨1, _⟩ => exact hk
  rw [el, er, hx, hx, EReal.coe_mul]

theorem columns_dot (x : FVec Ideal S64x100 .f32) (hx : Holds x A) (i j : Fin 100) :
    matmul dot_S64x100_S64x100_S100x100_0_0_1_1_n_n none x x (constant S100x100 .f32 0x00000000#32) (ValueIdx.ix2 i j) =
      ((∑ b, A b i * A b j : ℝ) : EReal) := by
  refine (Ideal.matmul_constant_zero_apply (φ₁ := .f32) (φ₂ := .f32) dot_S64x100_S64x100_S100x100_0_0_1_1_n_n none x x (ValueIdx.ix2 i j)).trans ?_
  rw [← Equiv.sum_comp (ValueIdx.contrEquiv1 dot_S64x100_S64x100_S100x100_0_0_1_1_n_n 64 rfl rfl).symm, coe_sum]
  refine Finset.sum_congr rfl fun c _ => ?_
  have hk := ValueIdx.contrEquiv1_symm_val dot_S64x100_S64x100_S100x100_0_0_1_1_n_n 64 rfl rfl c
  have el : dot_S64x100_S64x100_S100x100_0_0_1_1_n_n.lhsIdx (ValueIdx.ix2 i j)
      ((ValueIdx.contrEquiv1 dot_S64x100_S64x100_S100x100_0_0_1_1_n_n 64 rfl rfl).symm c) = ValueIdx.ix2 c i := by
    funext a; apply Fin.ext
    match a with
    | ⟨0, _⟩ => exact hk
    | ⟨1, _⟩ => rfl
  have er : dot_S64x100_S64x100_S100x100_0_0_1_1_n_n.rhsIdx (ValueIdx.ix2 i j)
      ((ValueIdx.contrEquiv1 dot_S64x100_S64x100_S100x100_0_0_1_1_n_n 64 rfl rfl).symm c) = ValueIdx.ix2 c j := by
    funext a; apply Fin.ext
    match a with
    | ⟨0, _⟩ => exact hk
    | ⟨1, _⟩ => rfl
  rw [el, er, hx, hx, EReal.coe_mul]

theorem squares_rows (hx : Holds x A) (hy : Holds y B) (j : S1x1.Idx) :
    squares64 (gramRows x y) j = ((squaresRowsR A B : ℝ) : EReal) := by
  have h : Holds (gramRows x y) (gramRowsR A B) := fun i j => by
    show matmul dot_S64x100_S64x100_S64x64_1_1_0_0_n_n none x x _ (ValueIdx.ix2 i j) -
      matmul dot_S64x100_S64x100_S64x64_1_1_0_0_n_n none y y _ (ValueIdx.ix2 i j) = _
    rw [rows_dot x hx, rows_dot y hy]; unfold gramRowsR; rw [EReal.coe_sub]
  refine (number_sum (mulf (gramRows x y) (gramRows x y)) _ _ j).trans (sum_holds fun i j => ?_)
  show gramRows x y (ValueIdx.ix2 i j) * gramRows x y (ValueIdx.ix2 i j) = _
  rw [h, EReal.coe_mul]

theorem squares_columns (hx : Holds x A) (hy : Holds y B) (j : S1x1.Idx) :
    squares100 (gramColumns x y) j = ((squaresColumnsR A B : ℝ) : EReal) := by
  have h : Holds (gramColumns x y) (gramColumnsR A B) := fun i j => by
    show matmul dot_S64x100_S64x100_S100x100_0_0_1_1_n_n none x x _ (ValueIdx.ix2 i j) -
      matmul dot_S64x100_S64x100_S100x100_0_0_1_1_n_n none y y _ (ValueIdx.ix2 i j) = _
    rw [columns_dot x hx, columns_dot y hy]; unfold gramColumnsR; rw [EReal.coe_sub]
  refine (number_sum (mulf (gramColumns x y) (gramColumns x y)) _ _ j).trans (sum_holds fun i j => ?_)
  show gramColumns x y (ValueIdx.ix2 i j) * gramColumns x y (ValueIdx.ix2 i j) = _
  rw [h, EReal.coe_mul]

theorem grams_eq {x y : Fin 5 → FVec Ideal S64x100 .f32} {P Q : Fin 5 → Mat} (hx : ∀ k, Holds (x k) (P k)) (hy : ∀ k, Holds (y k) (Q k))
    (j : S1x1.Idx) : grams x y j = ((gramsR P Q : ℝ) : EReal) := by
  have step : ∀ (a : FVec Ideal S1x1 .f32) (r : ℝ) (k : Fin 5), a j = ((r : ℝ) : EReal) →
      addGrams a (x k) (y k) j = ((r + (squaresRowsR (P k) (Q k) + squaresColumnsR (P k) (Q k)) : ℝ) : EReal) := by
    intro a r k ha
    show (a j + squares64 (gramRows (x k) (y k)) j) + squares100 (gramColumns (x k) (y k)) j = _
    rw [squares_rows (hx k) (hy k), squares_columns (hx k) (hy k), ha, ← EReal.coe_add, ← EReal.coe_add, add_assoc]
  have h0 : (num 0x00000000#32 : FVec Ideal S1x1 .f32) j = ((0 : ℝ) : EReal) := Consts.ofBits_zero
  refine (step _ _ 4 (step _ _ 3 (step _ _ 2 (step _ _ 1 (step _ _ 0 h0))))).trans ?_
  unfold gramsR
  rw [Fin.sum_univ_five, zero_add]

/-! ## Divergences and cross entropy -/

theorem cross_eq (hx : Holds x A) (t : IVec S64x1 32) (τ : Fin 64 → Fin 100)
    (ht : ∀ b, t (ValueIdx.ix2 b 0) = BitVec.ofNat 32 (τ b).val) (j : S1x1.Idx) : cross x t j = ((crossR A τ : ℝ) : EReal) := by
  have h : Holds (select (cmpi .eq (iota .tc S64x100 32 [1] iota_S64x100_d1_w32)
      (broadcastTo S64x100 (shapeCast S64x1 t shapeCasts_S64x1_S64x1) broadcasts_S64x1_S64x100))
    (logSoftmax x) (broadcast S64x100 (Scalar.ofBits (F := Ideal) .f32 0x00000000#32))) fun b c => if c = τ b then lsm (A b) c else 0 := by
    intro b c
    have e : cmpi .eq (iota .tc S64x100 32 [1] iota_S64x100_d1_w32)
        (broadcastTo S64x100 (shapeCast S64x1 t shapeCasts_S64x1_S64x1) broadcasts_S64x1_S64x100) (ValueIdx.ix2 b c) =
        BitVec.ofBool (decide (c = τ b)) := by
      have e1 : broadcastTo S64x100 (shapeCast S64x1 t shapeCasts_S64x1_S64x1) broadcasts_S64x1_S64x100 (ValueIdx.ix2 b c) =
          BitVec.ofNat 32 (τ b).val := by
        rw [broadcastTo_apply _ _ _ (ValueIdx.ix2 b 0) fun a => by match a with | ⟨0, _⟩ => rfl | ⟨1, _⟩ => rfl,
          shapeCast_apply t _ _ (ValueIdx.ix2 b 0) rfl, ht]
      have e2 : iota .tc S64x100 32 [1] iota_S64x100_d1_w32 (ValueIdx.ix2 b c) = BitVec.ofNat 32 c.val := by
        show BitVec.ofNat 32 (0 * 100 + c.val) = _
        rw [zero_mul, zero_add]
      show BitVec.ofBool (iota .tc S64x100 32 [1] iota_S64x100_d1_w32 (ValueIdx.ix2 b c) ==
        broadcastTo S64x100 (shapeCast S64x1 t shapeCasts_S64x1_S64x1) broadcasts_S64x1_S64x100 (ValueIdx.ix2 b c)) = _
      rw [e1, e2]
      congr 1
      have hc := c.isLt
      have hτ := (τ b).isLt
      rw [Bool.eq_iff_iff, beq_iff_eq, decide_eq_true_iff, ← BitVec.toNat_inj, BitVec.toNat_ofNat, BitVec.toNat_ofNat,
        Nat.mod_eq_of_lt (by omega), Nat.mod_eq_of_lt (by omega), Fin.ext_iff]
    show Scalar.select (cmpi .eq (iota .tc S64x100 32 [1] iota_S64x100_d1_w32)
        (broadcastTo S64x100 (shapeCast S64x1 t shapeCasts_S64x1_S64x1) broadcasts_S64x1_S64x100) (ValueIdx.ix2 b c))
      (logSoftmax x (ValueIdx.ix2 b c)) (Ideal.ofBits .f32 0x00000000#32) = _
    rw [e, logSoftmax_holds hx, Consts.ofBits_zero]
    by_cases hc : c = τ b
    · rw [decide_eq_true hc]; exact congrArg ((↑) : ℝ → EReal) (if_pos hc).symm
    · rw [decide_eq_false hc]; exact congrArg ((↑) : ℝ → EReal) (if_neg hc).symm
  show Ideal.div (Ideal.ofBits .f32 0x00000000#32 - (sumAll (F := Ideal) _ j : EReal)) (Ideal.ofBits .f32 0x42800000#32) = _
  rw [sumAll_holds h, Consts.ofBits_zero, Consts.ofBits_64, zero_sub, ← EReal.coe_neg, div_coe_coe _ (by norm_num)]
  unfold crossR
  simp

theorem divergence_step {lq lp : FVec Ideal S64x100 .f32} {k : Fin 5} {T : Mat} (hq : Holds lq (tempLogs A k)) (hp : Holds lp (tempLogs T k))
    (w : BitVec 32) (ce kd : FVec Ideal S1x1 .f32) (c : ℝ) (j : S1x1.Idx) (hc : ce j = ((c : ℝ) : EReal)) :
    addDivergence w ce kd lq lp j =
      (kd j + ((klR A T k : ℝ) : EReal) * Ideal.ofBits .f32 w) + ((c : ℝ) : EReal) * Ideal.ofBits .f32 0x3E99999A#32 := by
  show (kd j + Ideal.div (sumAll (mulf (exp lp) (subf lp lq)) j) (Ideal.ofBits .f32 0x45C80000#32) * Ideal.ofBits .f32 w)
    + ce j * Ideal.ofBits .f32 0x3E99999A#32 = _
  rw [sumAll_holds (mulf_holds (exp_holds hp) (subf_holds hp hq)), Consts.ofBits_6400, div_coe_coe _ (by norm_num), hc]
  rfl

theorem divergences_eq {x0 x1 : FVec Ideal S64x100 .f32} {T : Mat} (h0 : Holds x0 A) (h1 : Holds x1 T) (t : IVec S64x1 32)
    (τ : Fin 64 → Fin 100) (ht : ∀ b, t (ValueIdx.ix2 b 0) = BitVec.ofNat 32 (τ b).val) (j : S1x1.Idx) :
    divergences x0 x1 t j = kdE (crossR A τ) (klR A T) := by
  have hc := cross_eq h0 t τ ht j
  unfold divergences
  rw [divergence_step (logs_holds h0 4) (logs_holds h1 4) _ _ _ _ j hc, divergence_step (logs_holds h0 3) (logs_holds h1 3) _ _ _ _ j hc,
    divergence_step (logs_holds h0 2) (logs_holds h1 2) _ _ _ _ j hc, divergence_step (logs_holds h0 1) (logs_holds h1 1) _ _ _ _ j hc,
    divergence_step (logs_holds h0 0) (logs_holds h1 0) _ _ _ _ j hc, num_apply, Consts.ofBits_zero]
  rfl

/-- The number the launch stores, of real logits and target classes. -/
theorem part_eq {x0 x1 : FVec Ideal S64x100 .f32} {T : Mat} (h0 : Holds x0 A) (h1 : Holds x1 T) (t : IVec S64x1 32)
    (τ : Fin 64 → Fin 100) (ht : ∀ b, t (ValueIdx.ix2 b 0) = BitVec.ofNat 32 (τ b).val) (j : S1x1.Idx) :
    part x0 x1 t j = partE A T τ := by
  show (divergences x0 x1 t j + Ideal.ofBits .f32 0x3983126F#32 *
      ((dots (probs x1) (probs x1) j * dots (probs x1) (probs x1) j -
        Ideal.ofBits .f32 0x40000000#32 * dots (probs x1) (probs x0) j * dots (probs x1) (probs x0) j) +
        dots (probs x0) (probs x0) j * dots (probs x0) (probs x0) j)) + grams (probs x1) (probs x0) j = _
  rw [divergences_eq h0 h1 t τ ht, dots_eq (probs_holds h1) (probs_holds h1), dots_eq (probs_holds h1) (probs_holds h0),
    dots_eq (probs_holds h0) (probs_holds h0), grams_eq (probs_holds h1) (probs_holds h0)]
  rfl

end Cert.Part
-- ==== Proof.CubeValue.lean ====
/-
  The entries the first launch writes, at each row of its 640 by 100 array: the teacher's probabilities of the five
  temperatures in the upper half, the logarithms of the ratios in the lower half.
-/
module

public import proofs.«01_k».proof.Proof.PartValue

@[expose] public section

set_option maxRecDepth 16384

noncomputable section

namespace Cert.Part

open Idealize.ShloMosaic Cert.KernelIdeal Cert.KernelIdeal.Gen

/-- The temperature of a row. -/
def rowTemp (r : ℕ) : Fin 5 := ⟨r / 64 % 5, Nat.mod_lt _ (by norm_num)⟩
/-- The sample of a row. -/
def rowSample (r : ℕ) : Fin 64 := ⟨r % 64, Nat.mod_lt _ (by norm_num)⟩

/-- The entry at a row and a column. -/
def cubeR (A T : Mat) (r : Fin 640) (c : Fin 100) : ℝ :=
  if r.val < 320 then tempProbs T (rowTemp r.val) (rowSample r.val) c
  else tempLogs T (rowTemp r.val) (rowSample r.val) c - tempLogs A (rowTemp r.val) (rowSample r.val) c

/-- The array of these entries. -/
def cube (A T : Mat) : FVec Ideal S640x100 .f32 := fun y => ((cubeR A T (y 0) (y 1) : ℝ) : EReal)

variable {x0 x1 : FVec Ideal S64x100 .f32} {A T : Mat}

theorem emb_at (o : ℕ) (inb : ∀ a, (![o, 0] : Fin 2 → Nat) a + S64x100.size a ≤ S640x100.size a) (x : S64x100.Idx) :
    (((Rect.unit (s := S640x100) ![o, 0] S64x100.size inb).emb x 0).val = o + (x 0).val)
      ∧ ((Rect.unit (s := S640x100) ![o, 0] S64x100.size inb).emb x 1) = x 1 := by
  refine ⟨?_, Fin.ext ?_⟩
  · rw [Rect.emb_apply]; show o + 1 * (x 0).val = _; omega
  · rw [Rect.emb_apply]; show 0 + 1 * (x 1).val = _; omega

/-- A block of probabilities is the array's block at its rows. -/
theorem probs_block (h1 : Holds x1 T) (k : Fin 5) {o : ℕ} (ho : o = 64 * k.val)
    (inb : ∀ a, (![o, 0] : Fin 2 → Nat) a + S64x100.size a ≤ S640x100.size a) (x : S64x100.Idx) :
    probs x1 k x = cube A T ((Rect.unit (s := S640x100) ![o, 0] S64x100.size inb).emb x) := by
  obtain ⟨e0, e1⟩ := emb_at o inb x
  have hb : (x 0).val < 64 := (x 0).isLt
  have hk := k.isLt
  have et : rowTemp (o + (x 0).val) = k := Fin.ext (by show (o + (x 0).val) / 64 % 5 = k.val; omega)
  have es : rowSample (o + (x 0).val) = x 0 := Fin.ext (by show (o + (x 0).val) % 64 = (x 0).val; omega)
  unfold cube cubeR
  rw [e0, e1, if_pos (by omega), et, es]
  exact (congrArg (probs x1 k) (ValueIdx.eq_ix2 x)).trans (probs_holds h1 k _ _)

/-- A block of logarithms of ratios likewise. -/
theorem ratios_block (h0 : Holds x0 A) (h1 : Holds x1 T) (k : Fin 5) {o : ℕ} (ho : o = 320 + 64 * k.val)
    (inb : ∀ a, (![o, 0] : Fin 2 → Nat) a + S64x100.size a ≤ S640x100.size a) (x : S64x100.Idx) :
    ratios x0 x1 k x = cube A T ((Rect.unit (s := S640x100) ![o, 0] S64x100.size inb).emb x) := by
  obtain ⟨e0, e1⟩ := emb_at o inb x
  have hb : (x 0).val < 64 := (x 0).isLt
  have hk := k.isLt
  have et : rowTemp (o + (x 0).val) = k := Fin.ext (by show (o + (x 0).val) / 64 % 5 = k.val; omega)
  have es : rowSample (o + (x 0).val) = x 0 := Fin.ext (by show (o + (x 0).val) % 64 = (x 0).val; omega)
  unfold cube cubeR
  rw [e0, e1, if_neg (by omega), et, es]
  exact (congrArg (ratios x0 x1 k) (ValueIdx.eq_ix2 x)).trans (subf_holds (logs_holds h1 k) (logs_holds h0 k) _ _)

theorem no_offset : (![0, 0] : Fin 2 → ℕ) = fun _ => 0 := funext fun a => by match a with | 0 => rfl | 1 => rfl

/-- What the first launch leaves in the large array. -/
theorem out0_4_cube (h0 : Holds x0 A) (h1 : Holds x1 T) (t : IVec S64x1 32) : out0_4 (F := Ideal) x0 x1 t = cube A T := by
  rw [out0_4_eq, View.ld_unit_zero no_offset, View.ld_unit_zero no_offset]
  funext y
  refine View.canon_apply_of_pieces (Val := Elt Ideal) (e := .f32) (cube A T) _ ?_ y (cover0_4 _ _ _ _ _ _ _ _ _ _ y)
  intro p hp
  simp only [List.mem_cons, List.not_mem_nil, or_false] at hp
  rcases hp with rfl | rfl | rfl | rfl | rfl | rfl | rfl | rfl | rfl | rfl
  · exact ratios_block h0 h1 4 rfl inb_S640x100_S64x100_576_0
  · exact probs_block h1 4 rfl inb_S640x100_S64x100_256_0
  · exact ratios_block h0 h1 3 rfl inb_S640x100_S64x100_512_0
  · exact probs_block h1 3 rfl inb_S640x100_S64x100_192_0
  · exact ratios_block h0 h1 2 rfl inb_S640x100_S64x100_448_0
  · exact probs_block h1 2 rfl inb_S640x100_S64x100_128_0
  · exact ratios_block h0 h1 1 rfl inb_S640x100_S64x100_384_0
  · exact probs_block h1 1 rfl inb_S640x100_S64x100_64_0
  · exact ratios_block h0 h1 0 rfl inb_S640x100_S64x100_320_0
  · exact probs_block h1 0 rfl inb_S640x100_S64x100_0_0

/-- What it leaves in the small one. -/
theorem out0_3_part (h0 : Holds x0 A) (h1 : Holds x1 T) (t : IVec S64x1 32) (τ : Fin 64 → Fin 100)
    (ht : ∀ b, t (ValueIdx.ix2 b 0) = BitVec.ofNat 32 (τ b).val) (j : S1x1.Idx) : out0_3 (F := Ideal) x0 x1 t j = partE A T τ := by
  rw [out0_3_eq, View.ld_unit_zero no_offset, View.ld_unit_zero no_offset, View.ld_unit_zero no_offset, View.canon_unit_zero no_offset]
  exact part_eq h0 h1 t τ ht j

/-! ## In rows of 128 -/

/-- The array in rows of 128. -/
abbrev wide (z : FVec Ideal S640x100 .f32) : FVec Ideal S500x128 .f32 := shapeCast S500x128 z shapeCasts_S640x100_S500x128

theorem wide_apply (z : FVec Ideal S640x100 .f32) (r : Fin 500) (q : Fin 128) :
    wide z (ValueIdx.ix2 r q) = z (ValueIdx.ix2 ⟨(r.val * 128 + q.val) / 100, by omega⟩ ⟨(r.val * 128 + q.val) % 100, Nat.mod_lt _ (by norm_num)⟩) := by
  refine shapeCast_apply z _ _ _ ?_
  rw [Shape.rowMajor_val_two, Shape.rowMajor_val_two]
  show (r.val * 128 + q.val) / 100 * 100 + (r.val * 128 + q.val) % 100 = r.val * 128 + q.val
  omega

/-- The place of a position among the 32000 entries of either half. -/
def place : Fin 32000 ≃ Place where
  toFun a := (⟨a.val / 6400, by have := a.isLt; omega⟩, ⟨a.val / 100 % 64, Nat.mod_lt _ (by norm_num)⟩, ⟨a.val % 100, Nat.mod_lt _ (by norm_num)⟩)
  invFun p := ⟨(p.1.val * 64 + p.2.1.val) * 100 + p.2.2.val, by have := p.1.isLt; have := p.2.1.isLt; have := p.2.2.isLt; omega⟩
  left_inv a := Fin.ext (by show (a.val / 6400 * 64 + a.val / 100 % 64) * 100 + a.val % 100 = a.val; omega)
  right_inv p := by
    have h0 := p.1.isLt
    have h1 := p.2.1.isLt
    have h2 := p.2.2.isLt
    refine Prod.ext (Fin.ext ?_) (Prod.ext (Fin.ext ?_) (Fin.ext ?_))
    · show ((p.1.val * 64 + p.2.1.val) * 100 + p.2.2.val) / 6400 = p.1.val; omega
    · show ((p.1.val * 64 + p.2.1.val) * 100 + p.2.2.val) / 100 % 64 = p.2.1.val; omega
    · show ((p.1.val * 64 + p.2.1.val) * 100 + p.2.2.val) % 100 = p.2.2.val; omega

/-- The upper half holds the probabilities in their order. -/
theorem upper_apply (a : Fin 32000) :
    wide (cube A T) (ValueIdx.ix2 ⟨a.val / 128, by have := a.isLt; omega⟩ ⟨a.val % 128, Nat.mod_lt _ (by norm_num)⟩)
      = ((tempProbs T (place a).1 (place a).2.1 (place a).2.2 : ℝ) : EReal) := by
  have ha := a.isLt
  have e : a.val / 128 * 128 + a.val % 128 = a.val := by omega
  rw [wide_apply]
  show ((cubeR A T ⟨(a.val / 128 * 128 + a.val % 128) / 100, _⟩ ⟨(a.val / 128 * 128 + a.val % 128) % 100, _⟩ : ℝ) : EReal) = _
  simp only [e]
  unfold cubeR
  rw [if_pos (by show a.val / 100 < 320; omega),
    show rowTemp (a.val / 100) = (place a).1 from Fin.ext (by show a.val / 100 / 64 % 5 = a.val / 6400; rw [Nat.div_div_eq_div_mul]; omega)]
  rfl

/-- The lower half the logarithms of the ratios. -/
theorem lower_apply (a : Fin 32000) :
    wide (cube A T) (ValueIdx.ix2 ⟨250 + a.val / 128, by have := a.isLt; omega⟩ ⟨a.val % 128, Nat.mod_lt _ (by norm_num)⟩)
      = ((tempLogs T (place a).1 (place a).2.1 (place a).2.2 - tempLogs A (place a).1 (place a).2.1 (place a).2.2 : ℝ) : EReal) := by
  have ha := a.isLt
  have e : (250 + a.val / 128) * 128 + a.val % 128 = 32000 + a.val := by omega
  rw [wide_apply]
  show ((cubeR A T ⟨((250 + a.val / 128) * 128 + a.val % 128) / 100, _⟩ ⟨((250 + a.val / 128) * 128 + a.val % 128) % 100, _⟩ : ℝ) : EReal) = _
  simp only [e]
  unfold cubeR
  rw [if_neg (by show ¬ (32000 + a.val) / 100 < 320; omega),
    show rowTemp ((32000 + a.val) / 100) = (place a).1 from Fin.ext (by show (32000 + a.val) / 100 / 64 % 5 = a.val / 6400; rw [Nat.div_div_eq_div_mul]; omega),
    show rowSample ((32000 + a.val) / 100) = (place a).2.1 from Fin.ext (by show (32000 + a.val) / 100 % 64 = a.val / 100 % 64; omega),
    show (⟨(32000 + a.val) % 100, Nat.mod_lt _ (by norm_num)⟩ : Fin 100) = (place a).2.2 from Fin.ext (by show (32000 + a.val) % 100 = a.val % 100; omega)]

end Cert.Part
-- ==== Proof.KernelRun.lean ====
/-
  What the two launches leave in their result arrays, at what the launch finds in its argument arrays. Each launch has one
  point, and each of its blocks is a whole array.
-/
module

public import proofs.«01_k».proof.Proof.L1Run
public import proofs.«01_k».proof.Proof.CubeValue
public import Idealize.ShloMosaic.Lib.WholeRead

@[expose] public section

set_option maxRecDepth 65536

noncomputable section

namespace Cert.KernelIdeal.Gen

open Idealize.ShloMosaic Idealize.ShloMosaic.TcCoe Idealize.ShloMosaic.Tactic
open Idealize.ShloMosaic.Pipeline
open Idealize.SL Idealize.SL.RA Idealize.SL.BI Idealize.SL.Sem

variable (V : (c : Dev nD) → (b : Ref sig .tc) → Buf (Elt Ideal) ((c : Thread nD τ).loc b)) (c : Dev nD)

/-! ## A block at the origin with the array's extents is the array -/

theorem read_origin (b : Ref sig .tc) {o : Fin b.ty.shape.rank → ℕ} (h : ∀ a, o a = 0)
    (inb : ∀ a, o a + b.ty.shape.size a ≤ b.ty.shape.size a) (f : b.ty.Contents (Elt Ideal)) :
    ((Memref.whole b).access (Rect.unit o b.ty.shape.size inb) : View sig .tc _ _ _).read (Elt Ideal) f = f :=
  Memref.read_access_unit_zero (Elt Ideal) b (funext h) inb f

theorem mem_origin (b : Ref sig .tc) {o : Fin b.ty.shape.rank → ℕ} (h : ∀ a, o a = 0)
    (inb : ∀ a, o a + b.ty.shape.size a ≤ b.ty.shape.size a) (i : b.ty.shape.Idx) :
    i ∈ ((Memref.whole b).access (Rect.unit o b.ty.shape.size inb) : View sig .tc _ _ _).set := by
  show i ∈ ((View.whole b).slice (Rect.unit o b.ty.shape.size inb)).set
  rw [View.set_slice_whole, Rect.mem_set_unit]
  intro a
  rw [h a]
  exact ⟨Nat.zero_le _, by rw [Nat.zero_add]; exact (i a).isLt⟩

theorem inside (b : Ref sig .tc) {o : Fin b.ty.shape.rank → ℕ} (h : ∀ a, o a = 0) :
    ∀ a, o a + b.ty.shape.size a ≤ b.ty.shape.size a := fun a => by rw [h a, Nat.zero_add]

/-! ## What the launches read -/

theorem block0_0 (t : Fin cfg0.N) : iblk0 V c 0 t = V c main_arg0 := by
  obtain rfl := fin_N0 t
  have hz : ∀ a, win0_0.index t0_0 a * main_arg0.ty.shape.size a = 0 := by decide
  exact read_origin main_arg0 hz (inside _ hz) (V c main_arg0)
theorem block0_1 (t : Fin cfg0.N) : iblk0 V c 1 t = V c main_arg1 := by
  obtain rfl := fin_N0 t
  have hz : ∀ a, win0_1.index t0_0 a * main_arg1.ty.shape.size a = 0 := by decide
  exact read_origin main_arg1 hz (inside _ hz) (V c main_arg1)
theorem block0_2 (t : Fin cfg0.N) : iblk0 V c 2 t = V c main_v0 := by
  obtain rfl := fin_N0 t
  have hz : ∀ a, win0_2.index t0_0 a * main_v0.ty.shape.size a = 0 := by decide
  exact read_origin main_v0 hz (inside _ hz) (V c main_v0)
theorem block1_0 (t : Fin cfg1.N) : iblk1 V c 0 t = V c main_v2 := by
  obtain rfl := fin_N1 t
  have hz : ∀ a, win1_0.index t1_0 a * main_v2.ty.shape.size a = 0 := by decide
  exact read_origin main_v2 hz (inside _ hz) (V c main_v2)
theorem block1_1 (t : Fin cfg1.N) : iblk1 V c 1 t = V c main_v1_0 := by
  obtain rfl := fin_N1 t
  have hz : ∀ a, win1_1.index t1_0 a * main_v1_0.ty.shape.size a = 0 := by decide
  exact read_origin main_v1_0 hz (inside _ hz) (V c main_v1_0)

/-! ## What the first launch leaves -/

theorem final0_3 : (dat0 V c).arrAt 3 cfg0.N = out0_3 (V c main_arg0) (V c main_arg1) (V c main_v0) := by
  have hz : ∀ a, win0_3.index t0_0 a * main_v1_0.ty.shape.size a = 0 := by decide
  refine (dat0 V c).arrAt_eq_of_cover 3 _ (fun t _ => ?_) fun i => ⟨t0_0, flush0_3 _, mem_origin main_v1_0 hz (inside _ hz) i⟩
  obtain rfl := fin_N0 t
  show (cfg0.win 3).cut (grid0.coords t0_0) ((dat0 V c).after 3 t0_0) = _
  rw [after0_3, block0_0, block0_1, block0_2]
  exact (read_origin main_v1_0 hz (inside _ hz) _).symm
theorem final0_4 : (dat0 V c).arrAt 4 cfg0.N = out0_4 (V c main_arg0) (V c main_arg1) (V c main_v0) := by
  have hz : ∀ a, win0_4.index t0_0 a * main_v1_1.ty.shape.size a = 0 := by decide
  refine (dat0 V c).arrAt_eq_of_cover 4 _ (fun t _ => ?_) fun i => ⟨t0_0, flush0_4 _, mem_origin main_v1_1 hz (inside _ hz) i⟩
  obtain rfl := fin_N0 t
  show (cfg0.win 4).cut (grid0.coords t0_0) ((dat0 V c).after 4 t0_0) = _
  rw [after0_4, block0_0, block0_1, block0_2]
  exact (read_origin main_v1_1 hz (inside _ hz) _).symm

/-! ## What the second launch leaves -/

/-- The rows of the lower half of an array of 500 rows. -/
def lower (z : Vec Ideal S500x128 .f32) : Vec Ideal S250x128 .f32 :=
  View.ld z (Rect.unit (s := S500x128) ![250, 0] S250x128.size inb_S500x128_S250x128_250_0)
/-- The rows of the upper half. -/
def upper (z : Vec Ideal S500x128 .f32) : Vec Ideal S250x128 .f32 :=
  View.ld z (Rect.unit (s := S500x128) ![0, 0] S250x128.size inb_S500x128_S250x128_0_0)

/-- The second launch's number, from the array of 500 rows and the first launch's number. -/
def total (z : Vec Ideal S500x128 .f32) (p : Vec Ideal S1x1 .f32) : FVec Ideal S1x1 .f32 := L1.result (F := Ideal) (lower z) (upper z) p

theorem out1_total (arg0 : Memref sig .tc .vmem S500x128 .f32) (harg0 : arg0.IsWhole) (arg1 : Memref sig .tc .vmem S1x1 .f32) (harg1 : arg1.IsWhole)
    (arg2 : Memref sig .tc .vmem S1x1 .f32) (harg2 : arg2.IsWhole) (arg3 : Memref sig .tc .vmem S8x128 .f32) (harg3 : arg3.IsWhole)
    (x0 : Vec Ideal S500x128 .f32) (x1 : Vec Ideal S1x1 .f32) :
    out1_A_2 c arg0 harg0 arg1 harg1 arg2 harg2 arg3 harg3 x0 x1 = total x0 x1 := by
  unfold out1_A_2
  rw [pieces1, View.readAt_eq_ld, View.readAt_eq_ld, View.readAt_eq_ld, harg0.read_unread, harg1.read_unread,
    View.ld_unit_zero Cert.Part.no_offset]
  refine (View.read_writes_eq_canon _ _ _ fun y => ⟨_, List.mem_singleton_self _, ?_⟩).trans
    (View.canon_unit_zero (S := S1x1) (Val := Elt Ideal) (e := .f32) Cert.Part.no_offset inb_S1x1_S1x1_0_0 (total x0 x1))
  rw [Rect.mem_set_unit]
  intro a
  match a with
  | 0 => exact ⟨Nat.zero_le _, (y 0).isLt⟩
  | 1 => exact ⟨Nat.zero_le _, (y 1).isLt⟩

theorem final1_2 : (dat1 V c).arrAt 2 cfg1.N = total (V c main_v2) (V c main_v1_0) := by
  have hz : ∀ a, win1_2.index t1_0 a * main_v3.ty.shape.size a = 0 := by decide
  refine (dat1 V c).arrAt_eq_of_cover 2 _ (fun t _ => ?_) fun i => ⟨t1_0, flush1_2 _, mem_origin main_v3 hz (inside _ hz) i⟩
  obtain rfl := fin_N1 t
  show (cfg1.win 2).cut (grid1.coords t1_0) ((dat1 V c).after 2 t1_0) = _
  rw [after1_2]
  unfold outsAt1
  rw [out1_total, block1_0, block1_1]
  exact (read_origin main_v3 hz (inside _ hz) _).symm

end Cert.KernelIdeal.Gen
-- ==== Proof.L1Step.lean ====
/-
  What one step of the sorting network does, entry by entry: with the rows laid end to end, the partner at distance
  `2 ^ s` is the entry whose place differs in bit `s`, and a step is a stage of the network applied by the key.
-/
module

public import proofs.«01_k».proof.Proof.L1Ops
public import Idealize.ShloMosaic.Lib.Pipeline.Value
public import Idealize.ShloMosaic.Lib.ValueIdxCore
public import Idealize.ShloMosaic.Lib.SortNet.Keyed
public import Idealize.ShloMosaic.Lib.SortNet.Printed
public import Idealize.ShloMosaic.Lib.SortNet.Sorts
public import Mathlib.Data.Nat.Bitwise

@[expose] public section

namespace Cert.L1

open Idealize.ShloMosaic Idealize.ShloMosaic.SortNet

/-! ## A stage, at one place -/

section stage

variable {α β : Type*} [LinearOrder α]

/-- A stage applied by a key, at one place: the partner's entry is taken exactly when it is the one that belongs here. -/
theorem applyBy_stage {p s : ℕ} (hs : s < p) (w : Fin (2 ^ p) → Bool) (hw : ∀ j, w (SortNet.partner p s j) = w j)
    (key : β → α) (v : Fin (2 ^ p) → β) (i : Fin (2 ^ p)) :
    Network.applyBy key (stage p s w) v i =
      if (if (decide (i.val &&& 2 ^ s = 0) ^^ w i) = true then key (v (SortNet.partner p s i)) < key (v i)
          else key (v i) < key (v (SortNet.partner p s i)))
      then v (SortNet.partner p s i) else v i := by
  have main : ∀ k : Fin (2 ^ p), k.val &&& 2 ^ s = 0 →
      Network.applyBy key (stage p s w) v k =
        (if w k then (if key (v k) < key (v (SortNet.partner p s k)) then v (SortNet.partner p s k) else v k)
          else (if key (v (SortNet.partner p s k)) < key (v k) then v (SortNet.partner p s k) else v k)) ∧
      Network.applyBy key (stage p s w) v (SortNet.partner p s k) =
        (if w k then (if key (v k) < key (v (SortNet.partner p s k)) then v k else v (SortNet.partner p s k))
          else (if key (v (SortNet.partner p s k)) < key (v k) then v k else v (SortNet.partner p s k))) := by
    intro k hk
    have hne : k ≠ SortNet.partner p s k := fun h => partner_ne hs k k hk hk h.symm
    have hmem : stageCmpx p s w k hne ∈ stage p s w := mem_stage.mpr ⟨k, hk, hne, rfl⟩
    have h := Network.applyBy_of_mem_of_disjoint key _ (stage_pairwise_disjoint hs w) _ hmem v
    unfold stageCmpx at h
    cases hwk : w k
    · simp only [hwk, Bool.false_eq_true, if_false] at h ⊢
      exact h
    · simp only [hwk, if_true] at h ⊢
      exact ⟨h.2, h.1⟩
  by_cases hi : i.val &&& 2 ^ s = 0
  · rw [(main i hi).1, decide_eq_true hi]
    cases w i <;> simp
  · have h := (main (SortNet.partner p s i) (partner_and_of_set hs i hi)).2
    rw [partner_partner hs, hw] at h
    rw [h, decide_eq_false hi]
    cases w i <;> simp

end stage

/-! ## Places -/

section places

variable {R p : ℕ}

/-- The index of the entry at place `i`. -/
def col (h : R * 128 = 2 ^ p) (i : Fin (2 ^ p)) : (SR R).Idx :=
  ValueIdx.ix2 ⟨i.val / 128, by have := i.isLt; omega⟩ ⟨i.val % 128, by omega⟩

theorem col_zero (h : R * 128 = 2 ^ p) (i : Fin (2 ^ p)) : (col h i 0).val = i.val / 128 := rfl

theorem col_one (h : R * 128 = 2 ^ p) (i : Fin (2 ^ p)) : (col h i 1).val = i.val % 128 := rfl

/-- Places and indices correspond. -/
def colEquiv (h : R * 128 = 2 ^ p) : Fin (2 ^ p) ≃ (SR R).Idx where
  toFun := col h
  invFun j := ⟨(j 0).val * 128 + (j 1).val, by
    have h0 : (j 0).val < R := (j 0).isLt
    have h1 : (j 1).val < 128 := (j 1).isLt
    omega⟩
  left_inv i := by apply Fin.ext; show i.val / 128 * 128 + i.val % 128 = i.val; omega
  right_inv j := by
    have h1 : (j 1).val < 128 := (j 1).isLt
    rw [ValueIdx.eq_ix2 j]
    funext a
    match a with
    | ⟨0, _⟩ => apply Fin.ext; show ((j 0).val * 128 + (j 1).val) / 128 = (j 0).val; omega
    | ⟨1, _⟩ => apply Fin.ext; show ((j 0).val * 128 + (j 1).val) % 128 = (j 1).val; omega

/-- An index is the one at a place when its coordinates are the place's row and lane. -/
theorem eq_col (h : R * 128 = 2 ^ p) (j : (SR R).Idx) (i : Fin (2 ^ p)) (hi : (j 0).val * 128 + (j 1).val = i.val) : j = col h i := by
  have : (colEquiv h).symm j = i := Fin.ext hi
  rw [← this]; exact ((colEquiv h).apply_symm_apply j).symm

theorem lanes_col (h : R * 128 = 2 ^ p) (i : Fin (2 ^ p)) : lanes R (col h i) = BitVec.ofNat 32 (i.val % 128) := by
  show BitVec.ofNat 32 (0 * 128 + i.val % 128) = _
  rw [zero_mul, zero_add]

theorem flat_col (h : R * 128 = 2 ^ p) (i : Fin (2 ^ p)) : flat R (col h i) = BitVec.ofNat 32 i.val := by
  show BitVec.ofNat 32 (0 * R + i.val / 128) * 128#32 + lanes R (col h i) = _
  rw [lanes_col, zero_mul, zero_add]
  have e : (128#32 : BitVec 32) = BitVec.ofNat 32 128 := rfl
  rw [e, ← BitVec.ofNat_mul, ← BitVec.ofNat_add]
  congr 1; omega

theorem toNat_two_pow {s : ℕ} (hs : s < 32) : (BitVec.ofNat 32 (2 ^ s)).toNat = 2 ^ s := by
  rw [BitVec.toNat_ofNat, Nat.mod_eq_of_lt (Nat.pow_lt_pow_right (by decide) hs)]

/-- Bit `s` of the word of `n`, as the two comparisons read it. -/
theorem and_word_eq_zero {n s : ℕ} (hn : n < 2 ^ 32) (hs : s < 32) :
    (BitVec.ofNat 32 n &&& BitVec.ofNat 32 (2 ^ s) = 0#32) ↔ n &&& 2 ^ s = 0 := by
  rw [← BitVec.toNat_inj, BitVec.toNat_and, BitVec.toNat_ofNat, Nat.mod_eq_of_lt hn, toNat_two_pow hs]
  rfl

theorem bitClear_apply (x : IVec (SR R) 32) (j : (SR R).Idx) {n s : ℕ} (hx : x j = BitVec.ofNat 32 n) (hn : n < 2 ^ 32) (hs : s < 32) :
    bitClear R x (2 ^ s) j = BitVec.ofBool (decide (n &&& 2 ^ s = 0)) := by
  show BitVec.ofBool (x j &&& BitVec.ofNat 32 (2 ^ s) == 0#32) = _
  rw [hx]
  congr 1
  by_cases h : n &&& 2 ^ s = 0
  · rw [decide_eq_true h, beq_iff_eq]; exact (and_word_eq_zero hn hs).2 h
  · rw [decide_eq_false h, beq_eq_false_iff_ne]; exact fun h' => h ((and_word_eq_zero hn hs).1 h')

theorem notAsc_apply (h : R * 128 = 2 ^ p) (hp : p ≤ 32) (i : Fin (2 ^ p)) {l : ℕ} (hl : l < 32) :
    notAsc R l (col h i) = BitVec.ofBool (decide (i.val &&& 2 ^ l = 0) == false) := by
  show BitVec.ofBool (flat R (col h i) &&& BitVec.ofNat 32 (2 ^ l) != 0#32) = _
  have hi : i.val < 2 ^ 32 := lt_of_lt_of_le i.isLt (Nat.pow_le_pow_right (by decide) hp)
  rw [flat_col]
  congr 1
  by_cases hb : i.val &&& 2 ^ l = 0
  · rw [decide_eq_true hb, (and_word_eq_zero hi hl).2 hb]; rfl
  · rw [decide_eq_false hb, bne_iff_ne.2 fun h' => hb ((and_word_eq_zero hi hl).1 h')]; rfl

theorem lowAsc_apply (h : R * 128 = 2 ^ p) (hp : p ≤ 32) (i : Fin (2 ^ p)) {s : ℕ} (hs : s < 32) :
    lowAsc R s (col h i) = BitVec.ofBool (decide (i.val &&& 2 ^ s = 0) ^^ false) := by
  rw [Bool.xor_false]
  exact bitClear_apply _ _ (flat_col h i) (lt_of_lt_of_le i.isLt (Nat.pow_le_pow_right (by decide) hp)) hs

theorem lowBy_apply (h : R * 128 = 2 ^ p) (hp : p ≤ 32) (i : Fin (2 ^ p)) {s l : ℕ} (hs : s < 32) (hl : l < 32) :
    lowBy R s l (col h i) = BitVec.ofBool (decide (i.val &&& 2 ^ s = 0) ^^ (decide (i.val &&& 2 ^ l = 0) == false)) := by
  show lowAsc R s (col h i) ^^^ notAsc R l (col h i) = _
  rw [lowAsc_apply h hp i hs, notAsc_apply h hp i hl, Bool.xor_false]
  generalize decide (i.val &&& 2 ^ s = 0) = a
  generalize (decide (i.val &&& 2 ^ l = 0) == false) = b
  cases a <;> cases b <;> rfl

end places

/-! ## Partners -/

section partners

variable {α : Type} {R p : ℕ}

/-- A rotation of the lanes by `d`, read at a place. -/
theorem rotate_col (h : R * 128 = 2 ^ p) (x : (SR R).Idx → α) (d : ℕ) (hd : d < 128) (i k : Fin (2 ^ p))
    (hrow : k.val / 128 = i.val / 128) (hlane : k.val % 128 = (i.val % 128 + 128 - d) % 128) :
    dynamicRotate (s := SR R) 1 (BitVec.ofNat 32 d) none x (rotates_SR R) (col h i) = x (col h k) := by
  unfold dynamicRotate
  dsimp only
  congr 1
  have e : (BitVec.ofNat 32 d).toNat = d := by
    rw [BitVec.toNat_ofNat, Nat.mod_eq_of_lt (by omega)]
  funext a
  match a with
  | ⟨0, _⟩ =>
    rw [if_neg (fun e' => absurd (congrArg Fin.val e') (by decide : (0 : ℕ) ≠ 1))]
    exact Fin.ext hrow.symm
  | ⟨1, _⟩ =>
    rw [if_pos (show (⟨1, _⟩ : Fin 2) = 1 from rfl)]
    apply Fin.ext
    show (i.val % 128 + 128 - ((BitVec.ofNat 32 d).toNat + 0) % 128) % 128 = k.val % 128
    rw [e, hlane]
    omega

end partners

/-- Two arrays end to end, read inside the first. -/
theorem concat_first {α : Type} {t s₁ s₂ : Shape} (a : Fin t.rank) (x₁ : s₁.Idx → α) (x₂ : s₂.Idx → α)
    (h : Shape.Concatenates [s₁, s₂] t a) (j : t.Idx) (hr : s₁.rank = t.rank) (i : s₁.Idx)
    (hi : ∀ b : Fin s₁.rank, b.cast hr ≠ a → (i b).val = (j (b.cast hr)).val) (ha : (i (a.cast hr.symm)).val = (j a).val) :
    concatenate t a [⟨s₁, x₁⟩, ⟨s₂, x₂⟩] h j = x₁ i :=
  concatenate_apply_piece a [⟨s₁, x₁⟩, ⟨s₂, x₂⟩] h j 0 (by simp) s₁ x₁ rfl hr 0 rfl i hi ((Nat.zero_add _).trans ha)

/-- Two arrays end to end, read inside the second. -/
theorem concat_second {α : Type} {t s₁ s₂ : Shape} (a : Fin t.rank) (x₁ : s₁.Idx → α) (x₂ : s₂.Idx → α)
    (h : Shape.Concatenates [s₁, s₂] t a) (j : t.Idx) (hr₁ : s₁.rank = t.rank) (hr : s₂.rank = t.rank) (i : s₂.Idx)
    (hi : ∀ b : Fin s₂.rank, b.cast hr ≠ a → (i b).val = (j (b.cast hr)).val)
    (ha : s₁.size (a.cast hr₁.symm) + (i (a.cast hr.symm)).val = (j a).val) :
    concatenate t a [⟨s₁, x₁⟩, ⟨s₂, x₂⟩] h j = x₂ i :=
  concatenate_apply_piece a [⟨s₁, x₁⟩, ⟨s₂, x₂⟩] h j 1 (by simp) s₂ x₂ rfl hr _ (by simp [hr₁]) i hi ha

section partners

variable {R p : ℕ}

/-- Bit `s < 7` of a place is bit `s` of its lane. -/
theorem lane_and {n s : ℕ} (hs : s < 7) : n % 128 &&& 2 ^ s = n &&& 2 ^ s := by
  have e : (128 : ℕ) = 2 ^ 7 := rfl
  rw [e]
  apply Nat.eq_of_testBit_eq
  intro t
  rw [Nat.testBit_and, Nat.testBit_and, Nat.testBit_mod_two_pow, Nat.testBit_two_pow]
  by_cases h : s = t
  · subst h; simp [hs]
  · simp [h]

theorem clear_iff (n s : ℕ) : n &&& 2 ^ s = 0 ↔ n / 2 ^ s % 2 = 0 := by
  rw [Nat.and_two_pow, Nat.testBit_eq_decide_div_mod_eq]
  have h2 : 0 < 2 ^ s := Nat.two_pow_pos s
  by_cases h : n / 2 ^ s % 2 = 1
  · simp [h]
  · simp [h]; omega

/-- Bit `7 + k` of a place, by its row. -/
theorem row_clear_iff (n k : ℕ) : n &&& 2 ^ (7 + k) = 0 ↔ n / 128 % (2 * 2 ^ k) < 2 ^ k := by
  rw [clear_iff, pow_add, show (2 : ℕ) ^ 7 = 128 from rfl, ← Nat.div_div_eq_div_mul, ← Nat.mod_mul_left_div_self,
    Nat.div_eq_zero_iff_lt (Nat.two_pow_pos k)]

theorem rollPartner_col (h : R * 128 = 2 ^ p) (x : FVec Ideal (SR R) .f32) {s : ℕ} (hs : s < p) (hs7 : s < 7) (i : Fin (2 ^ p)) :
    rollPartner R (2 ^ s) x (col h i) = x (col h (SortNet.partner p s i)) := by
  show Scalar.select (bitClear R (lanes R) (2 ^ s) (col h i)) _ _ = _
  have hlt : i.val % 128 < 2 ^ 7 := Nat.mod_lt _ (by decide)
  have hpow : 2 ^ s < 128 := Nat.pow_lt_pow_right (by decide) hs7
  rw [bitClear_apply _ _ (lanes_col h i) (lt_trans hlt (by decide)) (by omega), select_ofBool, lane_and hs7]
  by_cases hb : i.val &&& 2 ^ s = 0
  · rw [decide_eq_true hb, if_pos rfl]
    have e := partner_val_of_clear hs i hb
    have e7 := partner_val_of_clear hs7 ⟨i.val % 128, hlt⟩ ((lane_and hs7).trans hb)
    have l7 := (SortNet.partner 7 s ⟨i.val % 128, hlt⟩).isLt
    rw [e7] at l7
    have l7' : i.val % 128 + 2 ^ s < 128 := l7
    have a1 : ∀ t, i.val % 128 + t < 128 → (i.val + t) / 128 = i.val / 128 := by omega
    have a2 : ∀ t, t < 128 → i.val % 128 + t < 128 → (i.val + t) % 128 = (i.val % 128 + 128 - (128 - t)) % 128 := by omega
    exact rotate_col h x (128 - 2 ^ s) (by have := Nat.two_pow_pos s; omega) i _ (by rw [e]; exact a1 _ l7') (by rw [e]; exact a2 _ hpow l7')
  · rw [decide_eq_false hb, if_neg Bool.false_ne_true]
    obtain ⟨e1, e⟩ := partner_val_of_set hs i hb
    have e7 : 2 ^ s ≤ i.val % 128 := (partner_val_of_set hs7 ⟨i.val % 128, hlt⟩ (fun h' => hb ((lane_and hs7).symm.trans h'))).1
    have a1 : ∀ t, t ≤ i.val % 128 → (i.val - t) / 128 = i.val / 128 := by omega
    have a2 : ∀ t, t < 128 → t ≤ i.val % 128 → (i.val - t) % 128 = (i.val % 128 + 128 - t) % 128 := by omega
    exact rotate_col h x (2 ^ s) hpow i _ (by rw [e]; exact a1 _ e7) (by rw [e]; exact a2 _ hpow e7)

theorem blockPartner_col (h : R * 128 = 2 ^ p) (x : FVec Ideal (SR R) .f32) {k g : ℕ} (hs : 7 + k < p) (hg : g * (2 * 2 ^ k) = R)
    (i : Fin (2 ^ p)) :
    blockPartner R g (2 ^ k) hg x (col h i) = x (col h (SortNet.partner p (7 + k) i)) := by
  have ht := Nat.two_pow_pos k
  have hpow : 2 ^ (7 + k) = 2 ^ k * 128 := by rw [pow_add]; ring
  have hc := row_clear_iff i.val k
  have hset := partner_val_of_set hs i
  have hclr := partner_val_of_clear hs i
  have hi := i.isLt
  have hmod := Nat.mod_add_div (i.val / 128) (2 * 2 ^ k)
  generalize SortNet.partner p (7 + k) i = q at hset hclr ⊢
  rw [hpow] at hset hclr hc
  generalize 2 ^ k = t at ht hg hc hset hclr hmod ⊢
  have hgq : i.val / 128 / (2 * t) < g := by
    rw [Nat.div_lt_iff_lt_mul (by omega), hg]; omega
  have hb : i.val / 128 % (2 * t) < 2 * t := Nat.mod_lt _ (by omega)
  have hl : i.val % 128 < 128 := Nat.mod_lt _ (by decide)
  unfold blockPartner
  rw [shapeCast_apply _ (casts_ungroup hg) (col h i)
    (ValueIdx.ix3 (⟨_, hgq⟩ : Fin g) (⟨_, hb⟩ : Fin (2 * t)) (⟨_, hl⟩ : Fin 128))
    (by
      rw [Shape.rowMajor_val_three, Shape.rowMajor_val_two]
      show (i.val / 128 / (2 * t) * (2 * t) + i.val / 128 % (2 * t)) * 128 + i.val % 128 = i.val / 128 * 128 + i.val % 128
      rw [mul_comm (i.val / 128 / (2 * t)), add_comm (2 * t * _), hmod])]
  by_cases hlow : i.val / 128 % (2 * t) < t
  · have hq := hclr (hc.2 hlow)
    refine (concat_first (t := SG g (2 * t)) 1 _ _ (concatenates_group g t) _ rfl
      (ValueIdx.ix3 (⟨_, hgq⟩ : Fin g) (⟨_, hlow⟩ : Fin t) (⟨_, hl⟩ : Fin 128))
      (fun b hb => by
        match b with
        | ⟨0, _⟩ => rfl
        | ⟨1, _⟩ => exact absurd rfl hb
        | ⟨2, _⟩ => rfl)
      rfl).trans ?_
    rw [extractStridedSlice_apply _ _ (slices_upper g t) _
      (ValueIdx.ix3 (⟨_, hgq⟩ : Fin g) (⟨t + i.val / 128 % (2 * t), by omega⟩ : Fin (2 * t)) (⟨_, hl⟩ : Fin 128))
      (fun b => by
        match b with
        | ⟨0, _⟩ => exact (Nat.zero_add _).symm
        | ⟨1, _⟩ => rfl
        | ⟨2, _⟩ => exact (Nat.zero_add _).symm)]
    refine shapeCast_apply _ (casts_group hg) _ (col h q) ?_
    rw [Shape.rowMajor_val_three, Shape.rowMajor_val_two]
    show q.val / 128 * 128 + q.val % 128 = (i.val / 128 / (2 * t) * (2 * t) + (t + i.val / 128 % (2 * t))) * 128 + i.val % 128
    rw [mul_comm (i.val / 128 / (2 * t))]
    omega
  · have hq := hset (fun h' => hlow (hc.1 h'))
    refine (concat_second (t := SG g (2 * t)) 1 _ _ (concatenates_group g t) _ rfl rfl
      (ValueIdx.ix3 (⟨_, hgq⟩ : Fin g) (⟨i.val / 128 % (2 * t) - t, by omega⟩ : Fin t) (⟨_, hl⟩ : Fin 128))
      (fun b hb => by
        match b with
        | ⟨0, _⟩ => rfl
        | ⟨1, _⟩ => exact absurd rfl hb
        | ⟨2, _⟩ => rfl)
      (by show t + (i.val / 128 % (2 * t) - t) = i.val / 128 % (2 * t); omega)).trans ?_
    rw [extractStridedSlice_apply _ _ (slices_lower g t) _
      (ValueIdx.ix3 (⟨_, hgq⟩ : Fin g) (⟨i.val / 128 % (2 * t) - t, by omega⟩ : Fin (2 * t)) (⟨_, hl⟩ : Fin 128))
      (fun b => by
        match b with
        | ⟨0, _⟩ => exact (Nat.zero_add _).symm
        | ⟨1, _⟩ => exact (Nat.zero_add _).symm
        | ⟨2, _⟩ => exact (Nat.zero_add _).symm)]
    refine shapeCast_apply _ (casts_group hg) _ (col h q) ?_
    rw [Shape.rowMajor_val_three, Shape.rowMajor_val_two]
    show q.val / 128 * 128 + q.val % 128 = (i.val / 128 / (2 * t) * (2 * t) + (i.val / 128 % (2 * t) - t)) * 128 + i.val % 128
    rw [mul_comm (i.val / 128 / (2 * t))]
    omega

/-- The entry a step reads at a place: the one whose place differs in bit `s`. -/
theorem partner_col (h : R * 128 = 2 ^ p) (x : FVec Ideal (SR R) .f32) {s : ℕ} (hs : s < p) (i : Fin (2 ^ p)) :
    partner R s x (col h i) = x (col h (SortNet.partner p s i)) := by
  unfold partner
  by_cases h7 : s < 7
  · rw [if_pos h7]; exact rollPartner_col h x hs h7 i
  · obtain ⟨k, rfl⟩ : ∃ k, s = 7 + k := ⟨s - 7, by omega⟩
    rw [if_neg h7, show 7 + k - 7 = k by omega]
    have hd : 2 * 2 ^ k ∣ R := by
      have e : R * 128 = 2 ^ (p - 7) * 128 := by
        rw [h, show (128 : ℕ) = 2 ^ 7 from rfl, ← pow_add]; congr 1; omega
      rw [Nat.eq_of_mul_eq_mul_right (by decide) e, ← pow_succ']
      exact pow_dvd_pow 2 (by omega)
    rw [dif_pos (Nat.div_mul_cancel hd)]
    exact blockPartner_col h x hs _ i

end partners

/-! ## A step is a stage -/

section step

variable {R p : ℕ}

/-- Where a step takes the partner's entry. -/
theorem takes_apply (c : IVec (SR R) 1) (pk key : FVec Ideal (SR R) .f32) (j : (SR R).Idx) (b : Bool) (hc : c j = BitVec.ofBool b) :
    takes R c pk key j = BitVec.ofBool (decide (if b = true then pk j < key j else key j < pk j)) := by
  show (c j &&& Ideal.cmp .olt (pk j) (key j)) ||| ((c j ^^^ 1#1) &&& Ideal.cmp .ogt (pk j) (key j)) = _
  rw [hc]
  show (BitVec.ofBool b &&& BitVec.ofBool (decide (pk j < key j))) |||
    ((BitVec.ofBool b ^^^ 1#1) &&& BitVec.ofBool (decide (key j < pk j))) = _
  cases b
  · simp only [Bool.false_eq_true, if_false]
    cases decide (pk j < key j) <;> cases decide (key j < pk j) <;> rfl
  · simp only [if_true]
    cases decide (pk j < key j) <;> cases decide (key j < pk j) <;> rfl

/-- The entries (key, weight) in their places. -/
def entries1 (h : R * 128 = 2 ^ p) (x : FVec Ideal (SR R) .f32 × FVec Ideal (SR R) .f32) : Fin (2 ^ p) → EReal × EReal :=
  fun i => (x.1 (col h i), x.2 (col h i))

/-- The entries (key, mark, weight) in their places. -/
def entries2 (h : R * 128 = 2 ^ p) (x : FVec Ideal (SR R) .f32 × FVec Ideal (SR R) .f32 × FVec Ideal (SR R) .f32) :
    Fin (2 ^ p) → EReal × EReal × EReal :=
  fun i => (x.1 (col h i), x.2.1 (col h i), x.2.2 (col h i))

theorem entries1_step (h : R * 128 = 2 ^ p) {s : ℕ} (hs : s < p) (c : IVec (SR R) 1) (w : Fin (2 ^ p) → Bool)
    (hw : ∀ j, w (SortNet.partner p s j) = w j)
    (hc : ∀ i, c (col h i) = BitVec.ofBool (decide (i.val &&& 2 ^ s = 0) ^^ w i))
    (x : FVec Ideal (SR R) .f32 × FVec Ideal (SR R) .f32) :
    entries1 h (step1 R s c x) = Network.applyBy Prod.fst (stage p s w) (entries1 h x) := by
  funext i
  rw [applyBy_stage hs w hw]
  show (Scalar.select (takes R c (partner R s x.1) x.1 (col h i)) (partner R s x.1 (col h i)) (x.1 (col h i)),
    Scalar.select (takes R c (partner R s x.1) x.1 (col h i)) (partner R s x.2 (col h i)) (x.2 (col h i))) = _
  rw [takes_apply _ _ _ _ _ (hc i), partner_col h x.1 hs, partner_col h x.2 hs, select_ofBool, select_ofBool]
  unfold entries1
  dsimp only
  split_ifs <;> simp_all

theorem entries2_step (h : R * 128 = 2 ^ p) {s : ℕ} (hs : s < p) (c : IVec (SR R) 1) (w : Fin (2 ^ p) → Bool)
    (hw : ∀ j, w (SortNet.partner p s j) = w j)
    (hc : ∀ i, c (col h i) = BitVec.ofBool (decide (i.val &&& 2 ^ s = 0) ^^ w i))
    (x : FVec Ideal (SR R) .f32 × FVec Ideal (SR R) .f32 × FVec Ideal (SR R) .f32) :
    entries2 h (step2 R s c x) = Network.applyBy Prod.fst (stage p s w) (entries2 h x) := by
  funext i
  rw [applyBy_stage hs w hw]
  show (Scalar.select (takes R c (partner R s x.1) x.1 (col h i)) (partner R s x.1 (col h i)) (x.1 (col h i)),
    Scalar.select (takes R c (partner R s x.1) x.1 (col h i)) (partner R s x.2.1 (col h i)) (x.2.1 (col h i)),
    Scalar.select (takes R c (partner R s x.1) x.1 (col h i)) (partner R s x.2.2 (col h i)) (x.2.2 (col h i))) = _
  rw [takes_apply _ _ _ _ _ (hc i), partner_col h x.1 hs, partner_col h x.2.1 hs, partner_col h x.2.2 hs, select_ofBool,
    select_ofBool, select_ofBool]
  unfold entries2
  dsimp only
  split_ifs <;> simp_all

end step

end Cert.L1
-- ==== Proof.L1Sort.lean ====
/-
  The second launch's entries after its sort and after its merge: the same entries in another order, in which the
  keys ascend.
-/
module

public import proofs.«01_k».proof.Proof.L1Step
public import proofs.«01_k».proof.Proof.Consts

@[expose] public section

namespace Cert.L1

open Idealize.ShloMosaic Idealize.ShloMosaic.SortNet

section nets

variable {R p : ℕ}

theorem reverse_range_succ (n : ℕ) : (List.range (n + 1)).reverse = n :: (List.range n).reverse := by
  rw [List.range_succ, List.reverse_append]; rfl

theorem entries1_merge1 (h : R * 128 = 2 ^ p) (c : ℕ → IVec (SR R) 1) (w : Fin (2 ^ p) → Bool) (n : ℕ) (hn : n ≤ p)
    (hw : ∀ s, s < n → ∀ j, w (SortNet.partner p s j) = w j)
    (hc : ∀ s, s < n → ∀ i, c s (col h i) = BitVec.ofBool (decide (i.val &&& 2 ^ s = 0) ^^ w i))
    (x : FVec Ideal (SR R) .f32 × FVec Ideal (SR R) .f32) :
    entries1 h (merge1 R c n x) = Network.applyBy Prod.fst ((List.range n).reverse.flatMap fun s => stage p s w) (entries1 h x) := by
  induction n generalizing x with
  | zero => rfl
  | succ n ih =>
    rw [reverse_range_succ, List.flatMap_cons, Network.applyBy_append, ← entries1_step h (by omega) (c n) w (hw n (by omega)) (hc n (by omega)) x]
    exact ih (by omega) (fun s hs => hw s (by omega)) (fun s hs => hc s (by omega)) _

theorem entries2_merge2 (h : R * 128 = 2 ^ p) (hp : p ≤ 32) (n : ℕ) (hn : n ≤ p)
    (x : FVec Ideal (SR R) .f32 × FVec Ideal (SR R) .f32 × FVec Ideal (SR R) .f32) :
    entries2 h (merge2 R n x) =
      Network.applyBy Prod.fst ((List.range n).reverse.flatMap fun s => stage p s fun _ => false) (entries2 h x) := by
  induction n generalizing x with
  | zero => rfl
  | succ n ih =>
    rw [reverse_range_succ, List.flatMap_cons, Network.applyBy_append,
      ← entries2_step h (by omega) (lowAsc R n) (fun _ => false) (fun _ => rfl) (fun i => lowAsc_apply h hp i (by omega)) x]
    exact ih (by omega) _

theorem entries1_sorts (h : R * 128 = 2 ^ p) (hp : p ≤ 31) (n : ℕ) (hn : n ≤ p)
    (x : FVec Ideal (SR R) .f32 × FVec Ideal (SR R) .f32) :
    entries1 h (sorts R n x) = Network.applyBy Prod.fst
      ((List.range n).flatMap fun l => (List.range (l + 1)).reverse.flatMap fun s =>
        stage p s fun i => (decide (i.val &&& 2 ^ (l + 1) = 0)) == false) (entries1 h x) := by
  induction n with
  | zero => rfl
  | succ n ih =>
    rw [List.range_succ, List.flatMap_append, Network.applyBy_append, ← ih (by omega), List.flatMap_cons, List.flatMap_nil,
      List.append_nil]
    exact entries1_merge1 h _ _ (n + 1) hn (fun s hs j => sizeClear_partner (by omega) (by omega) false j)
      (fun s hs i => lowBy_apply h (by omega) i (by omega) (by omega)) _

/-- The sort is the bitonic sort by the key. -/
theorem entries1_sortAll {n : ℕ} (h : R * 128 = 2 ^ (n + 1)) (hn : n < 31) (x : FVec Ideal (SR R) .f32 × FVec Ideal (SR R) .f32) :
    entries1 h (sortAll R n x) = Network.applyBy Prod.fst (sortNet (n + 1) false) (entries1 h x) := by
  have e : sortNet (n + 1) false = ((List.range n).flatMap fun l => (List.range (l + 1)).reverse.flatMap fun s =>
        stage (n + 1) s fun i => (decide (i.val &&& 2 ^ (l + 1) = 0)) == false)
      ++ (List.range (n + 1)).reverse.flatMap fun s => stage (n + 1) s fun _ => false := by
    unfold sortNet
    conv_lhs => rw [List.range_succ]
    rw [List.flatMap_append, List.flatMap_cons, List.flatMap_nil, List.append_nil]
    congr 2
    funext s
    congr 1
    funext i
    have : i.val &&& 2 ^ (n + 1) = 0 := by
      rw [Nat.and_two_pow, Nat.testBit_lt_two_pow i.isLt]; simp
    rw [decide_eq_true this]; rfl
  rw [e, Network.applyBy_append, ← entries1_sorts h (by omega) n (by omega)]
  exact entries1_merge1 h _ _ (n + 1) le_rfl (fun _ _ _ => rfl) (fun s hs i => lowAsc_apply h (by omega) i (by omega)) _

end nets

/-! ## The two copies -/

theorem rows256 : 256 * 128 = 2 ^ (14 + 1) := by norm_num

theorem rows512 : 512 * 128 = 2 ^ 16 := by norm_num

/-- A place among the two copies: which copy (the first is `true`), and the place in it. -/
def copyEquiv : Fin (2 ^ 16) ≃ Fin (2 ^ (14 + 1)) × Bool where
  toFun i := (⟨i.val % 32768, Nat.mod_lt _ (by norm_num)⟩, decide (i.val < 32768))
  invFun q := if q.2 then ⟨q.1.val, by have := q.1.isLt; omega⟩ else ⟨32768 + q.1.val, by have := q.1.isLt; omega⟩
  left_inv i := by
    have := i.isLt
    by_cases h : i.val < 32768
    · simp only [h, decide_true, if_true]; apply Fin.ext; show i.val % 32768 = i.val; omega
    · simp only [h, decide_false, Bool.false_eq_true, if_false]; apply Fin.ext; show 32768 + i.val % 32768 = i.val; omega
  right_inv q := by
    obtain ⟨⟨a, ha⟩, b⟩ := q
    cases b
    · simp only [Bool.false_eq_true, if_false]
      refine Prod.ext (Fin.ext ?_) ?_
      · show (32768 + a) % 32768 = a; omega
      · simp
    · simp only [if_true]
      refine Prod.ext (Fin.ext ?_) ?_
      · show a % 32768 = a; omega
      · simp; omega

theorem stack_col (x y : FVec Ideal (SR 256) .f32) (i : Fin (2 ^ 16)) :
    stack x y (col rows512 i) = if (copyEquiv i).2 then x (col rows256 (copyEquiv i).1) else y (col rows256 (copyEquiv i).1) := by
  have hi := i.isLt
  unfold stack
  by_cases h : i.val < 32768
  · rw [show (copyEquiv i).2 = true from decide_eq_true h, if_pos rfl]
    refine concat_first (t := SR 512) 0 x y _ _ rfl _ (fun b hb => ?_) ?_
    · match b with
      | ⟨0, _⟩ => exact absurd rfl hb
      | ⟨1, _⟩ => show i.val % 32768 % 128 = i.val % 128; omega
    · show i.val % 32768 / 128 = i.val / 128; omega
  · rw [show (copyEquiv i).2 = false from decide_eq_false h, if_neg Bool.false_ne_true]
    refine concat_second (t := SR 512) 0 x y _ _ rfl rfl _ (fun b hb => ?_) ?_
    · match b with
      | ⟨0, _⟩ => exact absurd rfl hb
      | ⟨1, _⟩ => show i.val % 32768 % 128 = i.val % 128; omega
    · show 256 + i.val % 32768 / 128 = i.val / 128; omega

/-! ## The entries after the merge -/

/-- The entry of one copy: on the first copy the key and the mark 1, on the second the key's negative and the mark 0. -/
def copyKey (k : Fin (2 ^ (14 + 1)) → ℝ) (q : Fin (2 ^ (14 + 1)) × Bool) : ℝ := if q.2 then k q.1 else -k q.1

/-- The mark of a copy. -/
def mark (b : Bool) : ℝ := if b then 1 else 0

/-- The merged entries are the two copies' entries in an order in which the keys ascend. -/
theorem merged_entries (x : FVec Ideal (SR 256) .f32 × FVec Ideal (SR 256) .f32) (k u : Fin (2 ^ (14 + 1)) → ℝ)
    (hx : ∀ i, entries1 rows256 x i = (((k i : ℝ) : EReal), ((u i : ℝ) : EReal))) :
    ∃ τ : Fin (2 ^ 16) ≃ Fin (2 ^ (14 + 1)) × Bool,
      (∀ i, entries2 rows512 (merge2 512 16 (doubled (sortAll 256 14 x))) i =
        (((copyKey k (τ i) : ℝ) : EReal), ((mark (τ i).2 : ℝ) : EReal), ((u (τ i).1 : ℝ) : EReal))) ∧
      Monotone fun i => copyKey k (τ i) := by
  obtain ⟨σ, hσ⟩ := Network.exists_perm_applyBy Prod.fst (sortNet (14 + 1) false) (entries1 rows256 x)
  have hs := (entries1_sortAll rows256 (by norm_num) x).trans hσ
  have hmono : Monotone (k ∘ σ) := by
    have h1 := sortNet_apply_monotone (14 + 1) (Prod.fst ∘ entries1 rows256 x)
    rw [← Network.key_comp_applyBy, hσ] at h1
    intro i j hij
    have h2 := h1 hij
    simp only [Function.comp_apply, hx] at h2
    exact EReal.coe_le_coe_iff.1 h2
  generalize sortAll 256 14 x = y at hs ⊢
  have hy : ∀ i, y.1 (col rows256 i) = ((k (σ i) : ℝ) : EReal) ∧ y.2 (col rows256 i) = ((u (σ i) : ℝ) : EReal) := by
    intro i
    have h1 := (congrFun hs i).trans (hx (σ i))
    exact ⟨congrArg Prod.fst h1, congrArg Prod.snd h1⟩
  let μ : Fin (2 ^ 16) ≃ Fin (2 ^ (14 + 1)) × Bool := copyEquiv.trans (Equiv.prodCongr σ (Equiv.refl Bool))
  have hd : ∀ i, entries2 rows512 (doubled y) i =
      (((copyKey k (μ i) : ℝ) : EReal), ((mark (μ i).2 : ℝ) : EReal), ((u (μ i).1 : ℝ) : EReal)) := by
    intro i
    show (stack _ _ (col rows512 i), stack _ _ (col rows512 i), stack _ _ (col rows512 i)) = _
    rw [stack_col, stack_col, stack_col]
    show _ = ((((if (copyEquiv i).2 = true then k (σ (copyEquiv i).1) else -k (σ (copyEquiv i).1)) : ℝ) : EReal),
      ((mark (copyEquiv i).2 : ℝ) : EReal), ((u (σ (copyEquiv i).1) : ℝ) : EReal))
    generalize (copyEquiv i).1 = a
    obtain ⟨h1, h2⟩ := hy a
    cases (copyEquiv i).2
    · simp only [Bool.false_eq_true, if_false]
      refine Prod.ext ?_ (Prod.ext ?_ h2)
      · show Ideal.ofBits .f32 0x00000000#32 - y.1 (col rows256 a) = _
        rw [Consts.ofBits_zero, h1, zero_sub, EReal.coe_neg]
      · show Ideal.ofBits .f32 0x3F800000#32 - Ideal.ofBits .f32 0x3F800000#32 = _
        rw [Consts.ofBits_one, ← EReal.coe_sub, sub_self]; rfl
    · simp only [if_true]
      refine Prod.ext h1 (Prod.ext ?_ h2)
      exact Consts.ofBits_one
  obtain ⟨ρ, hρ⟩ := Network.exists_perm_applyBy Prod.fst (mergeAscNet 16) (entries2 rows512 (doubled y))
  have hm : entries2 rows512 (merge2 512 16 (doubled y)) = entries2 rows512 (doubled y) ∘ ρ :=
    (entries2_merge2 rows512 (by norm_num) 16 le_rfl _).trans hρ
  refine ⟨ρ.trans μ, fun i => ?_, ?_⟩
  · rw [hm]; exact hd (ρ i)
  · have hda : DescAsc (Prod.fst ∘ entries2 rows512 (doubled y)) := by
      refine ⟨32768, Or.inr ⟨fun i j hij hj => ?_, fun i j hij hi => ?_⟩⟩
      · have hij' : i.val ≤ j.val := hij
        simp only [Function.comp_apply, hd]
        rw [EReal.coe_le_coe_iff]
        have hi' : i.val < 32768 := by omega
        show (if decide (i.val < 32768) = true then _ else _) ≤ (if decide (j.val < 32768) = true then _ else _)
        rw [decide_eq_true hi', decide_eq_true hj, if_pos rfl, if_pos rfl]
        apply hmono
        show i.val % 32768 ≤ j.val % 32768
        omega
      · have hij' : i.val ≤ j.val := hij
        have := j.isLt
        simp only [Function.comp_apply, hd]
        rw [EReal.coe_le_coe_iff]
        show (if decide (j.val < 32768) = true then _ else _) ≤ (if decide (i.val < 32768) = true then _ else _)
        rw [decide_eq_false (show ¬ j.val < 32768 by omega), decide_eq_false (show ¬ i.val < 32768 by omega),
          if_neg Bool.false_ne_true, if_neg Bool.false_ne_true]
        apply neg_le_neg
        apply hmono
        show i.val % 32768 ≤ j.val % 32768
        omega
    have h1 := mergeAscNet_apply_monotone 16 _ hda
    rw [← Network.key_comp_applyBy, hρ] at h1
    intro i j hij
    have h2 := h1 hij
    simp only [Function.comp_apply, hd] at h2
    exact EReal.coe_le_coe_iff.1 h2

end Cert.L1
-- ==== Proof.L1Sum.lean ====
/-
  The running sum and the total of the second launch, over entries that are real numbers.
-/
module

public import proofs.«01_k».proof.Proof.L1Sort

@[expose] public section

namespace Cert.L1

open Idealize.ShloMosaic Idealize.ShloMosaic.SortNet

section sums

variable {R p : ℕ}

/-- Zero rows above: a place in them reads zero. -/
theorem down_zero (h : R * 128 = 2 ^ p) (m r : ℕ) (hm : m + r = R) (x : FVec Ideal (SR R) .f32) (i : Fin (2 ^ p))
    (hi : i.val < m * 128) : down R m r hm x (col h i) = (0 : EReal) := by
  have hr : i.val / 128 < m := by omega
  refine (concat_first (t := SR R) 0 _ _ (concatenates_rows hm) (col h i) rfl
    (ValueIdx.ix2 ⟨i.val / 128, hr⟩ ⟨i.val % 128, Nat.mod_lt _ (by norm_num)⟩ : (SR m).Idx) (fun b hb => ?_) rfl).trans ?_
  · match b with
    | ⟨0, _⟩ => exact absurd rfl hb
    | ⟨1, _⟩ => rfl
  · exact Consts.ofBits_zero

/-- Below them, a place reads the array as many rows before. -/
theorem down_col (h : R * 128 = 2 ^ p) (m r : ℕ) (hm : m + r = R) (x : FVec Ideal (SR R) .f32) (i k : Fin (2 ^ p))
    (hi : i.val = k.val + m * 128) : down R m r hm x (col h i) = x (col h k) := by
  have hb : i.val / 128 < R := by have := i.isLt; omega
  have hr : k.val / 128 < r := by omega
  refine (concat_second (t := SR R) 0 _ _ (concatenates_rows hm) (col h i) rfl rfl
    (ValueIdx.ix2 ⟨k.val / 128, hr⟩ ⟨k.val % 128, Nat.mod_lt _ (by norm_num)⟩ : (SR r).Idx) (fun b hb => ?_) ?_).trans ?_
  · match b with
    | ⟨0, _⟩ => exact absurd rfl hb
    | ⟨1, _⟩ => show k.val % 128 = i.val % 128; omega
  · show m + k.val / 128 = i.val / 128; omega
  · refine extractStridedSlice_apply _ x _ _ (col h k) fun a => ?_
    match a with
    | ⟨0, _⟩ => exact (Nat.zero_add _).symm
    | ⟨1, _⟩ => exact (Nat.zero_add _).symm

theorem slt_words {a b : ℕ} (ha : a < 2 ^ 31) (hb : b < 2 ^ 31) :
    (BitVec.ofNat 32 a).slt (BitVec.ofNat 32 b) = decide (a < b) := by
  rw [BitVec.slt_eq_decide, BitVec.toInt_eq_toNat_of_lt, BitVec.toInt_eq_toNat_of_lt, BitVec.toNat_ofNat, BitVec.toNat_ofNat,
    Nat.mod_eq_of_lt (by omega), Nat.mod_eq_of_lt (by omega)]
  · congr 1; simp
  · rw [BitVec.toNat_ofNat, Nat.mod_eq_of_lt (by omega)]; omega
  · rw [BitVec.toNat_ofNat, Nat.mod_eq_of_lt (by omega)]; omega

theorem rollBack_col (h : R * 128 = 2 ^ p) (d : ℕ) (hd0 : 0 < d) (hd : d < 128) (hm : 1 + (R - 1) = R) (x : FVec Ideal (SR R) .f32)
    (i : Fin (2 ^ p)) :
    rollBack R d hm x (col h i) = if hi : d ≤ i.val then x (col h ⟨i.val - d, lt_of_le_of_lt (Nat.sub_le _ _) i.isLt⟩) else (0 : EReal) := by
  have hb := i.isLt
  have e : cmpi .slt (lanes R) (broadcast (SR R) (BitVec.ofNat 32 d)) (col h i) = BitVec.ofBool (decide (i.val % 128 < d)) := by
    show BitVec.ofBool ((lanes R (col h i)).slt (BitVec.ofNat 32 d)) = _
    rw [lanes_col, slt_words (by omega) (by omega)]
  show Scalar.select (cmpi .slt (lanes R) (broadcast (SR R) (BitVec.ofNat 32 d)) (col h i)) _ _ = _
  rw [e, select_ofBool]
  by_cases hl : i.val % 128 < d
  · rw [decide_eq_true hl, if_pos rfl]
    by_cases hr : i.val < 128
    · rw [down_zero h 1 (R - 1) hm _ i (by omega), dif_neg (by omega)]
    · rw [down_col h 1 (R - 1) hm _ i ⟨i.val - 128, by omega⟩ (by show i.val = i.val - 128 + 1 * 128; omega), dif_pos (by omega)]
      refine rotate_col h x d hd _ _ ?_ ?_
      · show (i.val - d) / 128 = (i.val - 128) / 128; omega
      · show (i.val - d) % 128 = ((i.val - 128) % 128 + 128 - d) % 128; omega
  · rw [decide_eq_false hl, if_neg Bool.false_ne_true, dif_pos (by omega)]
    refine rotate_col h x d hd _ _ ?_ ?_
    · show (i.val - d) / 128 = i.val / 128; omega
    · show (i.val - d) % 128 = (i.val % 128 + 128 - d) % 128; omega

theorem back_col (h : R * 128 = 2 ^ p) (s : ℕ) (hs : s < p) (x : FVec Ideal (SR R) .f32) (i : Fin (2 ^ p)) :
    back R s x (col h i) = if hi : 2 ^ s ≤ i.val then x (col h ⟨i.val - 2 ^ s, lt_of_le_of_lt (Nat.sub_le _ _) i.isLt⟩) else (0 : EReal) := by
  have hR : 0 < R := by
    rcases Nat.eq_zero_or_pos R with h0 | h0
    · rw [h0] at h; have := Nat.two_pow_pos p; omega
    · exact h0
  have hpos := Nat.two_pow_pos s
  unfold back
  by_cases h7 : s < 7
  · rw [if_pos h7, dif_pos (by omega)]
    have hpow : 2 ^ s < 128 := Nat.pow_lt_pow_right (by decide) h7
    exact rollBack_col h (2 ^ s) hpos hpow _ x i
  · obtain ⟨k, rfl⟩ : ∃ k, s = 7 + k := ⟨s - 7, by omega⟩
    have hpow : 2 ^ (7 + k) = 2 ^ k * 128 := by rw [pow_add]; ring
    have hlt : 2 ^ (7 + k) < 2 ^ p := Nat.pow_lt_pow_right (by decide) hs
    rw [if_neg h7, show 7 + k - 7 = k by omega]
    rw [hpow, ← h] at hlt
    have hle : 2 ^ k < R := Nat.lt_of_mul_lt_mul_right hlt
    simp only [hpow]
    rw [dif_pos (by omega)]
    by_cases hi : 2 ^ k * 128 ≤ i.val
    · rw [dif_pos hi]
      exact down_col h _ _ _ x i _ (by show i.val = i.val - 2 ^ k * 128 + 2 ^ k * 128; omega)
    · rw [dif_neg hi]
      exact down_zero h _ _ _ x i (by omega)

/-- The sum of the `n` entries up to place `i`. -/
def lastSum (a : ℕ → ℝ) (n i : ℕ) : ℝ := ∑ m ∈ Finset.range n, if m ≤ i then a (i - m) else 0

theorem lastSum_double (a : ℕ → ℝ) (n i : ℕ) :
    lastSum a (n + n) i = lastSum a n i + if n ≤ i then lastSum a n (i - n) else 0 := by
  unfold lastSum
  rw [Finset.sum_range_add]
  congr 1
  by_cases h : n ≤ i
  · rw [if_pos h]
    refine Finset.sum_congr rfl fun m _ => ?_
    by_cases hm : n + m ≤ i
    · rw [if_pos hm, if_pos (by omega), show i - (n + m) = i - n - m by omega]
    · rw [if_neg hm, if_neg (by omega)]
  · rw [if_neg h]
    exact Finset.sum_eq_zero fun m _ => if_neg (by omega)

theorem scan_col_aux (h : R * 128 = 2 ^ p) (x : FVec Ideal (SR R) .f32) (a : ℕ → ℝ) (hx : ∀ i, x (col h i) = ((a i.val : ℝ) : EReal))
    (n : ℕ) (hn : n ≤ p) (i : Fin (2 ^ p)) : scan R n x (col h i) = ((lastSum a (2 ^ n) i.val : ℝ) : EReal) := by
  induction n generalizing i with
  | zero => show x (col h i) = _; rw [hx]; simp [lastSum]
  | succ n ih =>
    show scan R n x (col h i) + back R n (scan R n x) (col h i) = _
    rw [back_col h n (by omega), ih (by omega), pow_succ, show 2 ^ n * 2 = 2 ^ n + 2 ^ n by ring, lastSum_double, EReal.coe_add]
    by_cases hi : 2 ^ n ≤ i.val
    · rw [dif_pos hi, if_pos hi, ih (by omega)]
    · rw [dif_neg hi, if_neg hi]; rfl

/-- The running sum at a place is the sum of the entries up to it. -/
theorem scan_col (h : R * 128 = 2 ^ p) (x : FVec Ideal (SR R) .f32) (a : Fin (2 ^ p) → ℝ) (hx : ∀ i, x (col h i) = ((a i : ℝ) : EReal))
    (i : Fin (2 ^ p)) : scan R p x (col h i) = ((∑ j, if j ≤ i then a j else 0 : ℝ) : EReal) := by
  rw [scan_col_aux h x (fun n => if hn : n < 2 ^ p then a ⟨n, hn⟩ else 0) (fun i => by rw [hx, dif_pos i.isLt]) p le_rfl i]
  congr 1
  unfold lastSum
  rw [← Finset.sum_filter, ← Finset.sum_filter]
  refine Finset.sum_bij' (fun m _ => ⟨i.val - m, by omega⟩) (fun j _ => i.val - j.val) ?_ ?_ ?_ ?_ ?_
  · intro m hm
    simp only [Finset.mem_filter, Finset.mem_range, Finset.mem_univ, true_and] at hm ⊢
    show i.val - m ≤ i.val; omega
  · intro j hj
    simp only [Finset.mem_filter, Finset.mem_range, Finset.mem_univ, true_and] at hj ⊢
    omega
  · intro m hm
    simp only [Finset.mem_filter, Finset.mem_range] at hm
    show i.val - (i.val - m) = m; omega
  · intro j hj
    simp only [Finset.mem_filter, Finset.mem_univ, true_and] at hj
    apply Fin.ext
    have hj' : j.val ≤ i.val := hj
    show i.val - (i.val - j.val) = j.val; omega
  · intro m hm
    exact dif_pos _

/-- The total is the sum of the entries. -/
theorem total_eq (h : R * 128 = 2 ^ p) (x : FVec Ideal (SR R) .f32) (a : Fin (2 ^ p) → ℝ) (hx : ∀ i, x (col h i) = ((a i : ℝ) : EReal))
    (j : SOne.Idx) : total R x j = ((∑ i, a i : ℝ) : EReal) := by
  have e : total R x j = ∑ i : (SG 1 R).Idx, shapeCast (SG 1 R) x (casts_total R) i :=
    Ideal.multiReduction_add_total (φ := .f32) _ 0x00000000#32 (reduces_total R) (fun b => by match b with | ⟨0, _⟩ => rfl) (.inl rfl) rfl _
  rw [e]
  unfold shapeCast
  rw [Equiv.sum_comp (Shape.reshapeEquiv _) x, ← Equiv.sum_comp (colEquiv h) x, coe_sum]
  exact Finset.sum_congr rfl fun i _ => hx i

end sums

end Cert.L1
-- ==== Proof.L1Value.lean ====
/-
  What the second launch computes: the sum over all pairs of entries of the absolute value of a difference of products.
-/
module

public import proofs.«01_k».proof.Proof.L1Sum

@[expose] public section

open scoped BigOperators

namespace Cert.L1

open Idealize.ShloMosaic Idealize.ShloMosaic.SortNet

/-! ## The identity over the reals -/

/-- The second weight of an entry with key `k` and weight `u`. -/
noncomputable def other (k u : ℝ) : ℝ := u * Real.exp (-k)

/-- The sign of a pair, read from the order of the two keys. -/
theorem abs_pair {ka kb ua ub : ℝ} (ha : 0 ≤ ua) (hb : 0 ≤ ub) :
    (kb ≤ -ka → -(ua * ub - other ka ua * other kb ub) = |ua * ub - other ka ua * other kb ub|) ∧
    (-ka ≤ kb → ua * ub - other ka ua * other kb ub = |ua * ub - other ka ua * other kb ub|) := by
  have hu : 0 ≤ ua * ub := mul_nonneg ha hb
  have e : ua * ub - other ka ua * other kb ub = ua * ub * (1 - Real.exp (-(ka + kb))) := by
    have : Real.exp (-(ka + kb)) = Real.exp (-ka) * Real.exp (-kb) := by rw [← Real.exp_add]; congr 1; ring
    rw [this]; unfold other; ring
  rw [e]
  constructor
  · intro h
    rw [abs_of_nonpos]
    exact mul_nonpos_of_nonneg_of_nonpos hu (by have := Real.one_le_exp (show 0 ≤ -(ka + kb) by linarith); linarith)
  · intro h
    rw [abs_of_nonneg]
    exact mul_nonneg hu (by have := Real.exp_le_one_iff.2 (show -(ka + kb) ≤ 0 by linarith); linarith)

/-- One entry's part of the sum, opened over the other entries. -/
theorem open_part {ι : Type} [Fintype ι] (P : ι → Prop) [DecidablePred P] (c a : ℝ) (A M : ι → ℝ) :
    c * (a * ((∑ j, A j * M j) - 2 * ∑ j, if P j then A j * M j else 0)) =
      ∑ j, c * M j * ((if P j then -1 else 1) * (a * A j)) := by
  have e : (∑ j, A j * M j) - 2 * (∑ j, if P j then A j * M j else 0) = ∑ j, (if P j then -1 else 1) * (A j * M j) := by
    rw [Finset.mul_sum, ← Finset.sum_sub_distrib]
    refine Finset.sum_congr rfl fun j _ => ?_
    by_cases h : P j
    · rw [if_pos h, if_pos h]; ring
    · rw [if_neg h, if_neg h]; ring
  rw [e, Finset.mul_sum, Finset.mul_sum]
  exact Finset.sum_congr rfl fun j _ => by ring

/-- The signed sum over two copies in ascending order is the sum of the absolute values over the pairs. -/
theorem pair_sum {κ : Type} [Fintype κ] {N : ℕ} (τ : Fin N ≃ κ × Bool) (k u : κ → ℝ) (hu : ∀ a, 0 ≤ u a)
    (hm : ∀ i j, i ≤ j → (if (τ i).2 then k (τ i).1 else -k (τ i).1) ≤ (if (τ j).2 then k (τ j).1 else -k (τ j).1)) :
    ∑ i, (1 - mark (τ i).2) *
      (u (τ i).1 * ((∑ j, u (τ j).1 * mark (τ j).2) - 2 * ∑ j, if j ≤ i then u (τ j).1 * mark (τ j).2 else 0) -
        other (k (τ i).1) (u (τ i).1) * ((∑ j, other (k (τ j).1) (u (τ j).1) * mark (τ j).2) -
          2 * ∑ j, if j ≤ i then other (k (τ j).1) (u (τ j).1) * mark (τ j).2 else 0)) =
    ∑ a, ∑ b, |u a * u b - other (k a) (u a) * other (k b) (u b)| := by
  let g : κ × Bool → κ × Bool → ℝ := fun q r =>
    (1 - mark q.2) * mark r.2 * |u q.1 * u r.1 - other (k q.1) (u q.1) * other (k r.1) (u r.1)|
  have step : ∀ i, (1 - mark (τ i).2) *
      (u (τ i).1 * ((∑ j, u (τ j).1 * mark (τ j).2) - 2 * ∑ j, if j ≤ i then u (τ j).1 * mark (τ j).2 else 0) -
        other (k (τ i).1) (u (τ i).1) * ((∑ j, other (k (τ j).1) (u (τ j).1) * mark (τ j).2) -
          2 * ∑ j, if j ≤ i then other (k (τ j).1) (u (τ j).1) * mark (τ j).2 else 0)) = ∑ j, g (τ i) (τ j) := by
    intro i
    rw [mul_sub, open_part (fun j => j ≤ i) (1 - mark (τ i).2) (u (τ i).1) (fun j => u (τ j).1) (fun j => mark (τ j).2),
      open_part (fun j => j ≤ i) (1 - mark (τ i).2) (other (k (τ i).1) (u (τ i).1)) (fun j => other (k (τ j).1) (u (τ j).1))
        (fun j => mark (τ j).2), ← Finset.sum_sub_distrib]
    refine Finset.sum_congr rfl fun j _ => ?_
    show _ = (1 - mark (τ i).2) * mark (τ j).2 *
      |u (τ i).1 * u (τ j).1 - other (k (τ i).1) (u (τ i).1) * other (k (τ j).1) (u (τ j).1)|
    have hij := hm i j
    have hji := hm j i
    have hab := @abs_pair (k (τ i).1) (k (τ j).1) (u (τ i).1) (u (τ j).1) (hu _) (hu _)
    rw [← mul_sub]
    cases hi : (τ i).2
    · cases hj : (τ j).2
      · simp [mark]
      · rw [hi, hj] at hij hji
        simp only [Bool.false_eq_true, if_false, if_true] at hij hji
        simp only [mark, Bool.false_eq_true, if_false, if_true, sub_zero, one_mul]
        by_cases h : j ≤ i
        · rw [if_pos h, ← hab.1 (hji h)]; ring
        · rw [if_neg h, ← hab.2 (hij (le_of_lt (not_le.1 h)))]; ring
    · simp [mark]
  rw [Finset.sum_congr rfl fun i _ => step i, Equiv.sum_comp τ (fun q => ∑ j, g q (τ j))]
  have e : ∀ q, ∑ j, g q (τ j) = ∑ r, g q r := fun q => Equiv.sum_comp τ (g q)
  simp only [e, Fintype.sum_prod_type, Fintype.sum_bool]
  simp [g, mark]

/-! ## The launch's result -/

section values

variable (x : FVec Ideal (SR 512) .f32 × FVec Ideal (SR 512) .f32 × FVec Ideal (SR 512) .f32)

theorem signedPart_col (f u : FVec Ideal (SR 512) .f32) (M A : Fin (2 ^ 16) → ℝ)
    (hf : ∀ i, f (col rows512 i) = ((M i : ℝ) : EReal)) (hu : ∀ i, u (col rows512 i) = ((A i : ℝ) : EReal)) (i : Fin (2 ^ 16)) :
    signedPart f u (col rows512 i) =
      ((A i * ((∑ j, A j * M j) - 2 * ∑ j, if j ≤ i then A j * M j else 0) : ℝ) : EReal) := by
  have hm : ∀ i, mulf u f (col rows512 i) = ((A i * M i : ℝ) : EReal) := fun i => by
    show u (col rows512 i) * f (col rows512 i) = _
    rw [hu, hf, EReal.coe_mul]
  show u (col rows512 i) * (total 512 (mulf u f) _ - Ideal.ofBits .f32 0x40000000#32 * scan 512 16 (mulf u f) (col rows512 i)) = _
  rw [total_eq rows512 _ _ hm, scan_col rows512 _ _ hm, hu, Consts.ofBits_two, ← EReal.coe_mul, ← EReal.coe_sub, ← EReal.coe_mul]

theorem crossSum_eq (k u : Fin (2 ^ (14 + 1)) → ℝ) (hu : ∀ a, 0 ≤ u a) (τ : Fin (2 ^ 16) ≃ Fin (2 ^ (14 + 1)) × Bool)
    (hx : ∀ i, entries2 rows512 x i =
      (((copyKey k (τ i) : ℝ) : EReal), ((mark (τ i).2 : ℝ) : EReal), ((u (τ i).1 : ℝ) : EReal)))
    (hm : Monotone fun i => copyKey k (τ i)) (j : SOne.Idx) :
    crossSum x j = ((∑ a, ∑ b, |u a * u b - other (k a) (u a) * other (k b) (u b)| : ℝ) : EReal) := by
  have h1 : ∀ i, x.1 (col rows512 i) = ((copyKey k (τ i) : ℝ) : EReal) := fun i => congrArg Prod.fst (hx i)
  have h2 : ∀ i, x.2.1 (col rows512 i) = ((mark (τ i).2 : ℝ) : EReal) := fun i => congrArg (fun q => q.2.1) (hx i)
  have h3 : ∀ i, x.2.2 (col rows512 i) = ((u (τ i).1 : ℝ) : EReal) := fun i => congrArg (fun q => q.2.2) (hx i)
  have h4 : ∀ i, second x (col rows512 i) = ((other (k (τ i).1) (u (τ i).1) : ℝ) : EReal) := by
    intro i
    show x.2.2 (col rows512 i) * Ideal.exp (x.1 (col rows512 i) * (Ideal.ofBits .f32 0x3F800000#32 -
      Ideal.ofBits .f32 0x40000000#32 * x.2.1 (col rows512 i))) = _
    rw [h1, h2, h3, Consts.ofBits_one, Consts.ofBits_two, ← EReal.coe_mul, ← EReal.coe_sub, ← EReal.coe_mul]
    show ((u (τ i).1 : ℝ) : EReal) * ((Real.exp _ : ℝ) : EReal) = _
    rw [← EReal.coe_mul]
    unfold other copyKey mark
    cases (τ i).2
    · simp
    · simp only [if_true]; norm_num
  rw [← pair_sum τ k u hu (fun i j hij => hm hij)]
  unfold crossSum
  refine total_eq rows512 _ _ (fun i => ?_) j
  show (Ideal.ofBits .f32 0x3F800000#32 - x.2.1 (col rows512 i)) *
    (signedPart x.2.1 x.2.2 (col rows512 i) - signedPart x.2.1 (second x) (col rows512 i)) = _
  rw [signedPart_col _ _ _ _ h2 h3, signedPart_col _ _ _ _ h2 h4, h2, Consts.ofBits_one, ← EReal.coe_sub, ← EReal.coe_sub, ← EReal.coe_mul]

/-- The input's rows with six constant rows below: a place among the first 32000. -/
theorem padded_first (v : FVec Ideal (SR 250) .f32) (b : BitVec 32) (i : Fin (2 ^ (14 + 1))) (h : i.val < 32000) :
    concatenate (SR 256) 0 [⟨SR 250, shapeCast (SR 250) v rfl⟩, ⟨SR 6, cst (SR 6) b⟩] (concatenates_rows rfl) (col rows256 i) =
      v (ValueIdx.ix2 ⟨i.val / 128, by omega⟩ ⟨i.val % 128, Nat.mod_lt _ (by norm_num)⟩) := by
  refine (concat_first (s₁ := SR 250) (s₂ := SR 6) (t := SR 256) 0 _ _ _ (col rows256 i) rfl
    (ValueIdx.ix2 ⟨i.val / 128, by omega⟩ ⟨i.val % 128, Nat.mod_lt _ (by norm_num)⟩) (fun b hb => ?_) rfl).trans ?_
  · match b with
    | ⟨0, _⟩ => exact absurd rfl hb
    | ⟨1, _⟩ => rfl
  · exact shapeCast_apply _ _ _ _ rfl

/-- A place among the last 768. -/
theorem padded_second (v : FVec Ideal (SR 250) .f32) (b : BitVec 32) (i : Fin (2 ^ (14 + 1))) (h : ¬ i.val < 32000) :
    concatenate (SR 256) 0 [⟨SR 250, shapeCast (SR 250) v rfl⟩, ⟨SR 6, cst (SR 6) b⟩] (concatenates_rows rfl) (col rows256 i) =
      Ideal.ofBits .f32 b := by
  have hi := i.isLt
  refine (concat_second (s₁ := SR 250) (s₂ := SR 6) (t := SR 256) 0 _ _ _ (col rows256 i) rfl rfl
    (ValueIdx.ix2 ⟨i.val / 128 - 250, by omega⟩ ⟨i.val % 128, Nat.mod_lt _ (by norm_num)⟩) (fun b hb => ?_) ?_).trans rfl
  · match b with
    | ⟨0, _⟩ => exact absurd rfl hb
    | ⟨1, _⟩ => rfl
  · show 250 + (i.val / 128 - 250) = i.val / 128; omega

/-- The second launch's result, of real keys and weights at 32000 places: the padding weighs nothing. -/
theorem result_eq (kv uv : FVec Ideal (SR 250) .f32) (p : FVec Ideal SOne .f32) (k u : Fin 32000 → ℝ) (hu : ∀ a, 0 ≤ u a)
    (hk : ∀ a : Fin 32000, kv (ValueIdx.ix2 ⟨a.val / 128, by have := a.isLt; omega⟩ ⟨a.val % 128, Nat.mod_lt _ (by norm_num)⟩)
      = ((k a : ℝ) : EReal))
    (hw : ∀ a : Fin 32000, uv (ValueIdx.ix2 ⟨a.val / 128, by have := a.isLt; omega⟩ ⟨a.val % 128, Nat.mod_lt _ (by norm_num)⟩)
      = ((u a : ℝ) : EReal)) (j : SOne.Idx) :
    result kv uv p j = p j + Ideal.ofBits .f32 0x3983126F#32 *
      ((∑ a, ∑ b, |u a * u b - other (k a) (u a) * other (k b) (u b)| : ℝ) : EReal) := by
  obtain ⟨pad, hpad⟩ := Consts.ofBits_pad
  let k' : Fin (2 ^ (14 + 1)) → ℝ := fun i => if h : i.val < 32000 then k ⟨i.val, h⟩ else pad
  let u' : Fin (2 ^ (14 + 1)) → ℝ := fun i => if h : i.val < 32000 then u ⟨i.val, h⟩ else 0
  have hent : ∀ i, entries1 rows256 (keys0 kv, weights0 uv) i = (((k' i : ℝ) : EReal), ((u' i : ℝ) : EReal)) := by
    intro i
    have hi := i.isLt
    show (keys0 kv (col rows256 i), weights0 uv (col rows256 i)) = _
    by_cases h : i.val < 32000
    · have e1 : k' i = k ⟨i.val, h⟩ := dif_pos h
      have e2 : u' i = u ⟨i.val, h⟩ := dif_pos h
      rw [e1, e2, ← hk, ← hw]
      exact Prod.ext (padded_first kv _ i h) (padded_first uv _ i h)
    · have e1 : k' i = pad := dif_neg h
      have e2 : u' i = 0 := dif_neg h
      rw [e1, e2, ← hpad]
      exact Prod.ext (padded_second kv _ i h) ((padded_second uv _ i h).trans Consts.ofBits_zero)
  have hu' : ∀ a, 0 ≤ u' a := fun a => by
    by_cases h : a.val < 32000
    · show 0 ≤ dite _ _ _; rw [dif_pos h]; exact hu _
    · show 0 ≤ dite _ _ _; rw [dif_neg h]
  obtain ⟨τ, hτ, hmono⟩ := merged_entries _ k' u' hent
  have hpsum : ∀ f : Fin (2 ^ (14 + 1)) → ℝ, (∀ i, ¬ i.val < 32000 → f i = 0) →
      ∑ i, f i = ∑ a : Fin 32000, f ⟨a.val, by have := a.isLt; omega⟩ := by
    intro f hf
    have := Fin.sum_univ_add (a := 32000) (b := 768) f
    refine this.trans ?_
    have hz : ∑ i : Fin 768, f (Fin.natAdd 32000 i) = 0 :=
      Finset.sum_eq_zero fun i _ => hf _ (by show ¬ 32000 + i.val < 32000; omega)
    rw [hz, add_zero]
    rfl
  have hz : ∀ i : Fin (2 ^ (14 + 1)), ¬ i.val < 32000 → u' i = 0 := fun i h => dif_neg h
  have hsum : ∑ a, ∑ b, |u' a * u' b - other (k' a) (u' a) * other (k' b) (u' b)| =
      ∑ a, ∑ b, |u a * u b - other (k a) (u a) * other (k b) (u b)| := by
    rw [hpsum _ (fun i hi => Finset.sum_eq_zero fun b _ => by rw [hz i hi]; simp [other])]
    refine Finset.sum_congr rfl fun a _ => ?_
    rw [hpsum _ (fun i hi => by rw [hz i hi]; simp [other])]
    refine Finset.sum_congr rfl fun b _ => ?_
    have ea : u' ⟨a.val, by have := a.isLt; omega⟩ = u a := dif_pos a.isLt
    have eb : u' ⟨b.val, by have := b.isLt; omega⟩ = u b := dif_pos b.isLt
    have fa : k' ⟨a.val, by have := a.isLt; omega⟩ = k a := dif_pos a.isLt
    have fb : k' ⟨b.val, by have := b.isLt; omega⟩ = k b := dif_pos b.isLt
    rw [ea, eb, fa, fb]
  rw [← hsum, ← crossSum_eq _ k' u' hu' τ hτ hmono j]
  show shapeCast SOne p rfl j + _ = _
  rw [shapeCast_apply p _ j j rfl]
  rfl

end values

end Cert.L1
-- ==== Proof.KernelValue.lean ====
/-
  The kernel's run, with the value of its result: the loss of real logits.
-/
module

public import proofs.«01_k».proof.Proof.KernelRun
public import proofs.«01_k».proof.Proof.L1Value

@[expose] public section

set_option maxRecDepth 65536

open scoped BigOperators

noncomputable section

namespace Cert.KernelIdeal.Gen

open Idealize.ShloMosaic Idealize.ShloMosaic.TcCoe Idealize.ShloMosaic.Tactic
open Idealize.ShloMosaic.Pipeline
open Idealize.SL Idealize.SL.RA Idealize.SL.BI Idealize.SL.Sem
open Cert.Part

/-! ## The second launch's number -/

section number

variable {A T : Mat}

theorem upper_at (z : FVec Ideal S500x128 .f32) (r : Fin 250) (q : Fin 128) :
    upper z (ValueIdx.ix2 r q) = z (ValueIdx.ix2 ⟨r.val, by omega⟩ q) := by
  refine congrArg z (funext fun a => Fin.ext ?_)
  match a with
  | 0 => show 0 + 1 * r.val = r.val; omega
  | 1 => show 0 + 1 * q.val = q.val; omega

theorem lower_at (z : FVec Ideal S500x128 .f32) (r : Fin 250) (q : Fin 128) :
    lower z (ValueIdx.ix2 r q) = z (ValueIdx.ix2 ⟨250 + r.val, by omega⟩ q) := by
  refine congrArg z (funext fun a => Fin.ext ?_)
  match a with
  | 0 => show 250 + 1 * r.val = 250 + r.val; omega
  | 1 => show 0 + 1 * q.val = q.val; omega

/-- The student's probability, from the teacher's and the logarithm of the ratio. -/
theorem other_eq (k : Fin 5) (b : Fin 64) (c : Fin 100) :
    L1.other (tempLogs T k b c - tempLogs A k b c) (tempProbs T k b c) = tempProbs A k b c := by
  unfold L1.other tempProbs
  rw [← Real.exp_add]
  congr 1
  ring

theorem total_eq (p : FVec Ideal S1x1 .f32) (j : S1x1.Idx) :
    total (wide (cube A T)) p j = (p j + Ideal.ofBits .f32 0x3983126F#32 * ((pairsR (tempProbs T) (tempProbs A) : ℝ) : EReal) : EReal) := by
  refine (L1.result_eq (lower (wide (cube A T))) (upper (wide (cube A T))) p
    (fun a => tempLogs T (place a).1 (place a).2.1 (place a).2.2 - tempLogs A (place a).1 (place a).2.1 (place a).2.2)
    (fun a => tempProbs T (place a).1 (place a).2.1 (place a).2.2) (fun a => (Real.exp_pos _).le)
    (fun a => (lower_at _ _ _).trans (lower_apply a)) (fun a => (upper_at _ _ _).trans (upper_apply a)) j).trans ?_
  refine congrArg (fun r : ℝ => (p j + Ideal.ofBits .f32 0x3983126F#32 * (r : EReal) : EReal)) ?_
  simp only [other_eq]
  unfold pairsR
  rw [← Equiv.sum_comp place]
  refine Finset.sum_congr rfl fun a _ => ?_
  rw [← Equiv.sum_comp place]

end number

/-! ## Through the program -/

section program

variable (m : (ℓ : Loc nD τ sig) → Buf (Elt Ideal) ℓ) (ρ : Dev nD → PrngReg) (c : Dev nD)

theorem entry_target : W1 m ρ c (Proc.devRef .tc main_v0) = shapeCast S64x1 (m ((c : Thread nD τ).loc main_arg2)) shapeCasts_S64_S64x1 := by
  unfold W1 hostOps0; rw [StableHlo.after_cons, StableHlo.after_nil, StableHlo.reshape_result]; rfl

theorem entry_wide : W3 m ρ c (Proc.devRef .tc main_v2) = wide (W2 m ρ c (Proc.devRef .tc main_v1_1)) := by
  unfold W3 hostOps1; rw [StableHlo.after_cons, StableHlo.after_nil, StableHlo.reshape_result]; rfl

theorem exit_scalar : W5 m ρ c (Proc.devRef .tc main_v4) = shapeCast S_ (W4 m ρ c (Proc.devRef .tc main_v3)) shapeCasts_S1x1_S_ := by
  unfold W5 hostOps2; rw [StableHlo.after_cons, StableHlo.after_nil, StableHlo.reshape_result]; rfl

theorem exit_part : W2 m ρ c (Proc.devRef .tc main_v1_0) = out0_3 (m ((c : Thread nD τ).loc main_arg0)) (m ((c : Thread nD τ).loc main_arg1))
    (shapeCast S64x1 (m ((c : Thread nD τ).loc main_arg2)) shapeCasts_S64_S64x1) := by
  refine (W2_arr m ρ c 3).trans ((final0_3 (V1 m ρ) c).trans ?_)
  rw [← entry_target m ρ c, ← W1_args m ρ c main_arg0 (by decide), ← W1_args m ρ c main_arg1 (by decide)]

theorem exit_cube : W2 m ρ c (Proc.devRef .tc main_v1_1) = out0_4 (m ((c : Thread nD τ).loc main_arg0)) (m ((c : Thread nD τ).loc main_arg1))
    (shapeCast S64x1 (m ((c : Thread nD τ).loc main_arg2)) shapeCasts_S64_S64x1) := by
  refine (W2_arr m ρ c 4).trans ((final0_4 (V1 m ρ) c).trans ?_)
  rw [← entry_target m ρ c, ← W1_args m ρ c main_arg0 (by decide), ← W1_args m ρ c main_arg1 (by decide)]

theorem exit_total : W4 m ρ c (Proc.devRef .tc main_v3)
    = total (wide (W2 m ρ c (Proc.devRef .tc main_v1_1))) (W2 m ρ c (Proc.devRef .tc main_v1_0)) := by
  refine (W4_arr m ρ c 2).trans ((final1_2 (V3 m ρ) c).trans ?_)
  rw [← entry_wide m ρ c, ← W3_of m ρ c main_v1_0 (by decide)]

variable {A T : Mat} {τ' : Fin 64 → Fin 100}

theorem column_target (t : IVec S64 32) (ht : ∀ b, t (ValueIdx.ix1 b) = BitVec.ofNat 32 (τ' b).val) (b : Fin 64) :
    shapeCast S64x1 t shapeCasts_S64_S64x1 (ValueIdx.ix2 b 0) = BitVec.ofNat 32 (τ' b).val := by
  refine (shapeCast_apply t _ _ (ValueIdx.ix1 b) ?_).trans (ht b)
  rw [Shape.rowMajor_val_two, Shape.rowMajor_val_one]
  show b.val = b.val * 1 + 0
  omega

/-- The result array ends at the loss. -/
theorem result_loss (h0 : Holds (m ((c : Thread nD τ).loc main_arg0)) A) (h1 : Holds (m ((c : Thread nD τ).loc main_arg1)) T)
    (ht : ∀ b, m ((c : Thread nD τ).loc main_arg2) (ValueIdx.ix1 b) = BitVec.ofNat 32 (τ' b).val) :
    W5 m ρ c (Proc.devRef .tc main_v4) = fun _ => lossE A T τ' := by
  rw [exit_scalar, exit_total, exit_cube, exit_part, out0_4_cube h0 h1]
  funext j
  refine (shapeCast_apply (s := S1x1) _ _ _ (ValueIdx.ix2 0 0) ?_).trans ?_
  · rw [Shape.rowMajor_val_two]; rfl
  · rw [total_eq, out0_3_part h0 h1 _ τ' (column_target _ ht)]; rfl

end program

end Cert.KernelIdeal.Gen
-- ==== Proof.KernelLaunch.lean ====
/-
  The kernel's run, read at its result: the launch is set up as for the frame, and the last state is read at the result
  array as well as at the arguments.
-/
module

public import proofs.«01_k».proof.Proof.KernelValue

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

-- the launch theorem's implicit arguments are found by unifying its conclusion with this one, which takes unfolding plain
-- definitions in a metavariable's type
set_option backward.isDefEq.respectTransparency.types false in
/-- Every execution ends with the result array at `W5`'s contents and the arguments as launched. -/
theorem run_value : θ_run defs (onTc (τ := τ) (main (F := Ideal))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Gen
-- ==== Proof.RefOps.lean ====
/-
  The reference's operations, grouped by meaning, and its result as their composition.
-/
module

public import proofs.«01_k».proof.Proof.Gen.ReferenceIdeal.Run

@[expose] public section

set_option maxRecDepth 8192

noncomputable section

namespace Cert.Ref

open Cert.ReferenceIdeal Cert.ReferenceIdeal.Gen Idealize.ShloMosaic Idealize.ShloMosaic.StableHlo

variable {F : FTy → Type} [FloatOps F]

/-- A single number. -/
def num (b : BitVec 32) : FVec F S_ .f32 := constant S_ .f32 b

/-- A row's number at every class. -/
def spread (y : FVec F S64x1 .f32) : FVec F S64x100 .f32 := broadcastInDim S64x100 ![0, 1] bcast_S64x1_S64x100_0_1 y

/-- One number a row, as a column. -/
def column (y : FVec F S64 .f32) : FVec F S64x1 .f32 := broadcastInDim S64x1 ![0] bcast_S64_S64x1_0 y

/-- The logits less their row's maximum. -/
def centred (x : FVec F S64x100 .f32) : FVec F S64x100 .f32 :=
  subf x (spread (column (maximumf (broadcastInDim S64 ![] bcast_S_S64 (num 0xFF800000#32))
    (Host.reduce FloatOps.maximumf x (num 0xFF800000#32) reducesTo_S64x100_S64_d1 h_S_))))

/-- The sum of each row. -/
def rowSum (x : FVec F S64x100 .f32) : FVec F S64 .f32 := Host.reduceAdd x (num 0x00000000#32) reducesTo_S64x100_S64_d1 h_S_

/-- The log-softmax of each row. -/
def logSoftmax (x : FVec F S64x100 .f32) : FVec F S64x100 .f32 :=
  subf (centred x) (spread (Host.log (column (rowSum (Host.exp (centred x))))))

/-- The softmax of each row. -/
def softmax (x : FVec F S64x100 .f32) : FVec F S64x100 .f32 :=
  Host.divf (Host.exp (centred x)) (spread (column (rowSum (Host.exp (centred x)))))

/-- The logits over a temperature. -/
def over (w : BitVec 32) (x : FVec F S64x100 .f32) : FVec F S64x100 .f32 := Host.divf x (broadcastInDim S64x100 ![] bcast_S_S64x100 (num w))

/-- The mean of `p (log p - log q)`, `p` the teacher's softmax `y` and `log q` the student's log-softmax of `x`. -/
def divergence (x y : FVec F S64x100 .f32) : FVec F S_ .f32 :=
  Host.divf (Host.reduceAdd (mulf (softmax y) (subf (Host.log (softmax y)) (logSoftmax x))) (num 0x00000000#32) reducesTo_S64x100_S_d0_1 h_S_)
    (num 0x45C80000#32)

/-- The target classes as a column. -/
def targets (t : IVec S64 32) : IVec S64x1 32 := broadcastInDim S64x1 ![0] bcast_S64_S64x1_0 t

/-- The classes to look up, a negative one counted from the end. -/
def places (t : IVec S64x1 32) : IVec S64x1x1 32 :=
  shapeCast S64x1x1 (select (cmpi .slt t (broadcastInDim S64x1 ![] bcast_S_S64x1 (constantI S_ 32 0#32)))
    (addi t (broadcastInDim S64x1 ![] bcast_S_S64x1 (constantI S_ 32 100#32))) t) shapeCasts_S64x1_S64x1x1

/-- Whether the class looked up exists. -/
def inside (p : IVec S64x1x1 32) : IVec S64x1 1 :=
  Host.reduce IntOp.andi (andi (cmpi .sge p (broadcastInDim S64x1x1 ![] bcast_S_S64x1x1 (constantI S_ 32 0#32)))
    (cmpi .sle p (broadcastInDim S64x1x1 ![0, 1, 2] bcast_S1x1x1_S64x1x1_0_1_2 (broadcastInDim S1x1x1 ![2] bcast_S1_S1x1x1_2
      (constantI S1 32 99#32))))) (constantI S_ 1 1#1) reducesTo_S64x1x1_S64x1_d2 h_S_

/-- The entries looked up. -/
def looked (x : FVec F S64x100 .f32) (p : IVec S64x1x1 32) : FVec F S64x1 .f32 :=
  select (inside p) (Host.gather gather_S64x100_S64x1x1_S64x1_n_1_0_0_1_2_11 x p)
    (broadcastInDim S64x1 ![] bcast_S_S64x1 (num 0x7FC00000#32))

/-- The cross entropy. -/
def cross (x : FVec F S64x100 .f32) (t : IVec S64 32) : FVec F S_ .f32 :=
  Host.negf (Host.divf (Host.reduceAdd (looked (logSoftmax x) (places (targets t))) (num 0x00000000#32) reducesTo_S64x1_S_d0_1 h_S_)
    (num 0x42800000#32))

/-- One temperature's share added to the sum so far. -/
def addShare (w : BitVec 32) (ce kl kd : FVec F S_ .f32) : FVec F S_ .f32 := addf (addf kd (mulf kl (num w))) (mulf ce (num 0x3E99999A#32))

/-- The divergences and cross entropies. -/
def divergences (x y : FVec F S64x100 .f32) (t : IVec S64 32) : FVec F S_ .f32 :=
  let kl w := divergence (over w x) (over w y)
  addShare 0x418C0000#32 (cross x t) (kl 0x40A00000#32) (addShare 0x41333333#32 (cross x t) (kl 0x40800000#32)
    (addShare 0x40C9999A#32 (cross x t) (kl 0x40400000#32) (addShare 0x40333333#32 (cross x t) (kl 0x40000000#32)
      (addShare 0x3F333333#32 (cross x t) (kl 0x3F800000#32) (num 0x00000000#32)))))

/-- The temperatures. -/
def temperatures : FVec F S5 .f32 := addf (broadcastInDim S5 ![] bcast_S_S5 (num 0x3F800000#32)) (sitofp .f32 (iotaInDim S5 32 0))

/-- The logits at every temperature. -/
def stacked (x : FVec F S64x100 .f32) : FVec F S64x100x5 .f32 :=
  Host.divf (broadcastInDim S64x100x5 ![0, 1, 2] bcast_S64x100x1_S64x100x5_0_1_2 (broadcastInDim S64x100x1 ![0, 1] bcast_S64x100_S64x100x1_0_1 x))
    (broadcastInDim S64x100x5 ![0, 1, 2] bcast_S1x1x5_S64x100x5_0_1_2 (broadcastInDim S1x1x5 ![2] bcast_S5_S1x1x5_2 temperatures))

/-- A number for each row and temperature, at every class. -/
def spread3 (y : FVec F S64x5 .f32) : FVec F S64x100x5 .f32 :=
  broadcastInDim S64x100x5 ![0, 1, 2] bcast_S64x1x5_S64x100x5_0_1_2 (broadcastInDim S64x1x5 ![0, 2] bcast_S64x5_S64x1x5_0_2 y)

/-- The exponentials of a stack less its maxima over the classes. -/
def expCentred3 (x : FVec F S64x100x5 .f32) : FVec F S64x100x5 .f32 :=
  Host.exp (subf x (spread3 (maximumf (broadcastInDim S64x5 ![] bcast_S_S64x5 (num 0xFF800000#32))
    (Host.reduce FloatOps.maximumf x (num 0xFF800000#32) reducesTo_S64x100x5_S64x5_d1 h_S_))))

/-- A stack over its sums over the classes. -/
def normalised (e : FVec F S64x100x5 .f32) : FVec F S64x100x5 .f32 :=
  Host.divf e (spread3 (Host.reduceAdd e (num 0x00000000#32) reducesTo_S64x100x5_S64x5_d1 h_S_))

/-- The softmax at every temperature. -/
def cube (x : FVec F S64x100 .f32) : FVec F S64x100x5 .f32 := normalised (expCentred3 (stacked x))

/-- A stack in one line. -/
def flat (x : FVec F S64x100x5 .f32) : FVec F S32000 .f32 := shapeCast S32000 x shapeCasts_S64x100x5_S32000

/-- The scalar product of two lines. -/
def dot (x y : FVec F S32000 .f32) : FVec F S_ .f32 := Host.reduceAdd (mulf x y) (num 0x00000000#32) reducesTo_S32000_S_d0 h_S_

/-- All products of two entries of a line. -/
def products (x : FVec F S32000 .f32) : FVec F S32000x32000 .f32 :=
  mulf (broadcastInDim S32000x32000 ![0, 1] bcast_S32000x1_S32000x32000_0_1 (broadcastInDim S32000x1 ![0] bcast_S32000_S32000x1_0 x))
    (broadcastInDim S32000x32000 ![0, 1] bcast_S1x32000_S32000x32000_0_1 (broadcastInDim S1x32000 ![1] bcast_S32000_S1x32000_1 x))

/-- The sum of the absolute differences of the products. -/
def pairs (x y : FVec F S32000 .f32) : FVec F S_ .f32 :=
  Host.reduceAdd (Host.absf (subf (products x) (products y))) (num 0x00000000#32) reducesTo_S32000x32000_S_d0_1 h_S_

/-- The differences of the Gram matrices of the rows. -/
def gramRows (x y : FVec F S64x100x5 .f32) : FVec F S5x64x64 .f32 :=
  subf (Host.dotGeneral dot_S64x100x5_S64x100x5_S5x64x64_1_1_0_0_2_2 none x x)
    (Host.dotGeneral dot_S64x100x5_S64x100x5_S5x64x64_1_1_0_0_2_2 none y y)

/-- The differences of the Gram matrices of the columns. -/
def gramColumns (x y : FVec F S64x100x5 .f32) : FVec F S5x100x100 .f32 :=
  subf (Host.dotGeneral dot_S64x100x5_S64x100x5_S5x100x100_0_0_1_1_2_2 none x x)
    (Host.dotGeneral dot_S64x100x5_S64x100x5_S5x100x100_0_0_1_1_2_2 none y y)

/-- The squares of both. -/
def grams (x y : FVec F S64x100x5 .f32) : FVec F S_ .f32 :=
  addf (mulf (num 0x3F800000#32) (Host.reduceAdd (mulf (gramRows x y) (gramRows x y)) (num 0x00000000#32) reducesTo_S5x64x64_S_d0_1_2 h_S_))
    (mulf (num 0x3F800000#32) (Host.reduceAdd (mulf (gramColumns x y) (gramColumns x y)) (num 0x00000000#32) reducesTo_S5x100x100_S_d0_1_2 h_S_))

/-- The squared scalar products. -/
def squaredDots (tt ss ts : FVec F S_ .f32) : FVec F S_ .f32 :=
  mulf (num 0x3983126F#32) (addf (subf (mulf tt tt) (mulf (mulf (num 0x40000000#32) ts) ts)) (mulf ss ss))

/-- The whole loss, of the student's logits `x`, the teacher's `y` and the targets. -/
def loss (x y : FVec F S64x100 .f32) (t : IVec S64 32) : FVec F S_ .f32 :=
  addf (addf (addf (divergences x y t) (mulf (num 0x3983126F#32) (pairs (flat (cube y)) (flat (cube x)))))
    (squaredDots (dot (flat (cube y)) (flat (cube y))) (dot (flat (cube x)) (flat (cube x))) (dot (flat (cube y)) (flat (cube x)))))
    (grams (cube y) (cube x))

/-- The reference's result is the loss of its arguments. -/
theorem result_eq (V0 : Valuation τ sig (Elt F)) :
    Cert.ReferenceIdeal.Value.res_main_v213 V0 = loss (V0 (Proc.devRef .tc main_arg0)) (V0 (Proc.devRef .tc main_arg1)) (V0 (Proc.devRef .tc main_arg2)) := rfl

end Cert.Ref
-- ==== Proof.RefRows.lean ====
/-
  The reference's operations on logits-shaped arrays, on real logits.
-/
module

public import proofs.«01_k».proof.Proof.RefOps
public import proofs.«01_k».proof.Proof.Loss
public import Idealize.ShloMosaic.Lib.Pipeline.Value
public import Idealize.ShloMosaic.Lib.Pointwise.Reduce
public import Idealize.ShloMosaic.Lib.KernelVsHost
public import Idealize.ShloMosaic.Lib.ReduceAll
public import Idealize.ShloMosaic.Lib.ValueIdxCore

@[expose] public section

set_option maxRecDepth 16384

open scoped BigOperators

noncomputable section

namespace Cert.Ref

open Idealize.ShloMosaic Cert.ReferenceIdeal Cert.ReferenceIdeal.Gen

/-- The array holds the real numbers `A`. -/
def Holds (x : FVec Ideal S64x100 .f32) (A : Mat) : Prop := ∀ i j, x (ValueIdx.ix2 i j) = ((A i j : ℝ) : EReal)

variable {x y : FVec Ideal S64x100 .f32} {A B : Mat}

theorem column_apply (y : FVec Ideal S64 .f32) (i : Fin 64) (u : Fin 1) : column y (ValueIdx.ix2 i u) = y (ValueIdx.ix1 i) :=
  broadcastInDim_apply _ _ y _ _ fun a => by match a with | ⟨0, _⟩ => rfl

theorem spread_apply (y : FVec Ideal S64x1 .f32) (i : Fin 64) (j : Fin 100) : spread y (ValueIdx.ix2 i j) = y (ValueIdx.ix2 i 0) :=
  broadcastInDim_apply _ _ y _ _ fun a => by match a with | ⟨0, _⟩ => rfl | ⟨1, _⟩ => rfl

theorem centred_holds (hx : Holds x A) : ∃ m : Fin 64 → ℝ, Holds (centred x) fun i j => A i j - m i := by
  have key : ∀ i : Fin 64, ∃ r : ℝ, Host.reduce FloatOps.maximumf x (num 0xFF800000#32) reducesTo_S64x100_S64_d1 h_S_ (ValueIdx.ix1 i)
      = (r : EReal) := by
    intro i
    have hr : S64x100.Reduces [1] S64 := by decide
    obtain ⟨r, h⟩ := fold_max_real Finset.univ ⟨(⟨0, by decide⟩ : Fin (S64x100.size 1)), Finset.mem_univ _⟩
      (x ∘ hr.lift (ValueIdx.ix1 i)) fun d => ⟨_, (congrArg x (ValueIdx.eq_ix2 _)).trans (hx _ _)⟩
    refine ⟨r, (congrFun (hostReduce_maximumf_eq_multiReduction x 0xFF800000#32 reducesTo_S64x100_S64_d1 h_S_ hr (.inl rfl) rfl) _).trans
      ((Ideal.multiReduction_maximumf_single (φ := .f32) x 0xFF800000#32 hr (.inl rfl) rfl _).trans ?_)⟩
    rw [show FloatOps.ofBits (F := Ideal) .f32 0xFF800000#32 = (⊥ : EReal) from Consts.ofBits_neg_inf]
    exact h
  choose m hm using key
  refine ⟨m, fun i j => ?_⟩
  show x (ValueIdx.ix2 i j) - (spread (F := Ideal) _ (ValueIdx.ix2 i j) : EReal) = _
  rw [spread_apply, column_apply]
  show x (ValueIdx.ix2 i j) - max (Ideal.ofBits .f32 0xFF800000#32)
    (Host.reduce FloatOps.maximumf x (num 0xFF800000#32) reducesTo_S64x100_S64_d1 h_S_ (ValueIdx.ix1 i)) = _
  rw [hm, hx, Consts.ofBits_neg_inf, max_bot_left, EReal.coe_sub]

theorem rowSum_holds (hx : Holds x A) (i : Fin 64) : rowSum x (ValueIdx.ix1 i) = ((∑ j, A i j : ℝ) : EReal) := by
  refine (Ideal.hostReduceAdd_r2_a1 reducesTo_S64x100_S64_d1 x _ (ValueIdx.ix1 i)).trans ?_
  show Ideal.ofBits .f32 0x00000000#32 + _ = _
  rw [Consts.ofBits_zero, zero_add, coe_sum]
  exact Finset.sum_congr rfl fun j _ => hx i j

theorem exp_holds (hx : Holds x A) : Holds (Host.exp x) fun i j => Real.exp (A i j) := fun i j => by
  show Ideal.exp (x (ValueIdx.ix2 i j)) = _
  rw [hx, Ideal.exp_coe]

theorem logSoftmax_holds (hx : Holds x A) : Holds (logSoftmax x) fun i => lsm (A i) := by
  obtain ⟨m, hm⟩ := centred_holds hx
  intro i j
  show centred x (ValueIdx.ix2 i j) - (spread (Host.log (column (rowSum (Host.exp (centred x))))) (ValueIdx.ix2 i j) : EReal) = _
  rw [spread_apply]
  show _ - Ideal.log (column (rowSum (Host.exp (centred x))) (ValueIdx.ix2 i 0) : EReal) = _
  rw [column_apply, rowSum_holds (exp_holds hm), hm, log_pos_coe (sum_exp_pos fun j => A i j - m i), ← EReal.coe_sub, lsm_shift]

theorem softmax_holds (hx : Holds x A) : Holds (softmax x) fun i j => Real.exp (lsm (A i) j) := by
  obtain ⟨m, hm⟩ := centred_holds hx
  intro i j
  show Ideal.div (Host.exp (centred x) (ValueIdx.ix2 i j)) (spread (column (rowSum (Host.exp (centred x)))) (ValueIdx.ix2 i j)) = _
  rw [spread_apply, column_apply, rowSum_holds (exp_holds hm), exp_holds hm, div_coe_coe _ (sum_exp_pos fun j => A i j - m i).ne', softmax_shift]

theorem over_holds (hx : Holds x A) {w : BitVec 32} {k : Fin 5} (hw : Ideal.ofBits .f32 w = (((k.val : ℝ) + 1 : ℝ) : EReal)) :
    Holds (over w x) fun i j => A i j / ((k.val : ℝ) + 1) := fun i j => by
  show Ideal.div (x (ValueIdx.ix2 i j)) (Ideal.ofBits .f32 w) = _
  rw [hx, hw, div_coe_coe _ (by positivity)]

theorem total (h : S64x100.ReducesTo [0, 1] S_) (hx : Holds x A) (j : S_.Idx) :
    Host.reduceAdd x (num 0x00000000#32) h h_S_ j = ((∑ b, ∑ c, A b c : ℝ) : EReal) := by
  refine (Ideal.hostReduceAdd_total h (fun b => b.elim0) x _ j).trans ?_
  show Ideal.ofBits .f32 0x00000000#32 + _ = _
  rw [Consts.ofBits_zero, zero_add, ValueIdx.sum_idx2, coe_sum]
  refine Finset.sum_congr rfl fun i _ => ?_
  rw [coe_sum]
  exact Finset.sum_congr rfl fun j _ => hx i j

theorem divergence_eq (hx : Holds x A) (hy : Holds y B) {w : BitVec 32} {k : Fin 5} (hw : Ideal.ofBits .f32 w = (((k.val : ℝ) + 1 : ℝ) : EReal))
    (j : S_.Idx) : divergence (over w x) (over w y) j = ((klR A B k : ℝ) : EReal) := by
  have hp := softmax_holds (over_holds hy hw)
  have hq := logSoftmax_holds (over_holds hx hw)
  have h : Holds (mulf (softmax (over w y)) (subf (Host.log (softmax (over w y))) (logSoftmax (over w x))))
      fun b c => tempProbs B k b c * (tempLogs B k b c - tempLogs A k b c) := fun b c => by
    show softmax (over w y) (ValueIdx.ix2 b c) * (Ideal.log (softmax (over w y) (ValueIdx.ix2 b c)) - logSoftmax (over w x) (ValueIdx.ix2 b c)) = _
    rw [hp, hq, log_pos_coe (Real.exp_pos _), Real.log_exp, ← EReal.coe_sub, ← EReal.coe_mul]
    rfl
  show Ideal.div (Host.reduceAdd (F := Ideal) (φ := .f32) _ (num 0x00000000#32) reducesTo_S64x100_S_d0_1 h_S_ j) (Ideal.ofBits .f32 0x45C80000#32) = _
  rw [total _ h, Consts.ofBits_6400, div_coe_coe _ (by norm_num)]
  rfl

/-! ## Cross entropy -/

section
variable {t : IVec S64 32} {τ : Fin 64 → Fin 100} (ht : ∀ b, t (ValueIdx.ix1 b) = BitVec.ofNat 32 (τ b).val)
include ht

theorem word_toInt (b : Fin 64) : (BitVec.ofNat 32 (τ b).val).toInt = (τ b).val := by
  have := (τ b).isLt
  rw [BitVec.toInt_eq_toNat_of_lt (by rw [BitVec.toNat_ofNat, Nat.mod_eq_of_lt (by omega)]; omega), BitVec.toNat_ofNat, Nat.mod_eq_of_lt (by omega)]

theorem targets_apply (b : Fin 64) (u : Fin 1) : targets t (ValueIdx.ix2 b u) = BitVec.ofNat 32 (τ b).val :=
  (broadcastInDim_apply _ _ t _ (ValueIdx.ix1 b) fun a => by match a with | ⟨0, _⟩ => rfl).trans (ht b)

theorem places_apply (b : Fin 64) (u v : Fin 1) : places (targets t) (ValueIdx.ix3 b u v) = BitVec.ofNat 32 (τ b).val := by
  have e : places (targets t) (ValueIdx.ix3 b u v) = (select (cmpi .slt (targets t) (broadcastInDim S64x1 ![] bcast_S_S64x1 (constantI S_ 32 0#32)))
    (addi (targets t) (broadcastInDim S64x1 ![] bcast_S_S64x1 (constantI S_ 32 100#32))) (targets t)) (ValueIdx.ix2 b 0) :=
    shapeCast_apply _ _ _ _ (by
      rw [Shape.rowMajor_val_three, Shape.rowMajor_val_two]
      show b.val * 1 + 0 = (b.val * 1 + u.val) * 1 + v.val
      omega)
  rw [e]
  show Scalar.select (BitVec.ofBool ((targets t (ValueIdx.ix2 b 0)).slt 0#32)) _ (targets t (ValueIdx.ix2 b 0)) = _
  rw [targets_apply ht]
  have : (BitVec.ofNat 32 (τ b).val).slt 0#32 = false := by
    rw [BitVec.slt, word_toInt ht]
    simp
  rw [this]; rfl

theorem inside_apply (j : S64x1.Idx) : inside (places (targets t)) j = 1#1 := by
  refine Host.reduce_andi_one _ _ _ _ _ rfl fun i => ?_
  obtain ⟨b, u, v, rfl⟩ : ∃ (b : Fin 64) (u v : Fin 1), i = ValueIdx.ix3 b u v := ⟨i 0, i 1, i 2, ValueIdx.eq_ix3 i⟩
  show IntOp.andi (BitVec.ofBool ((0#32 : BitVec 32).sle (places (targets t) (ValueIdx.ix3 b u v))))
    (BitVec.ofBool ((places (targets t) (ValueIdx.ix3 b u v)).sle 99#32)) = _
  rw [places_apply ht]
  have h1 : (0#32 : BitVec 32).sle (BitVec.ofNat 32 (τ b).val) = true := by
    rw [BitVec.sle, word_toInt ht]; simp
  have h2 : (BitVec.ofNat 32 (τ b).val).sle 99#32 = true := by
    have := (τ b).isLt
    rw [BitVec.sle, word_toInt ht]; simp; omega
  exact (congrArg₂ (fun a b => IntOp.andi (BitVec.ofBool a) (BitVec.ofBool b)) h1 h2).trans rfl

theorem gather_apply (x : FVec Ideal S64x100 .f32) (b : Fin 64) (u : Fin 1) :
    Host.gather gather_S64x100_S64x1x1_S64x1_n_1_0_0_1_2_11 x (places (targets t)) (ValueIdx.ix2 b u) = x (ValueIdx.ix2 b (τ b)) := by
  unfold Host.gather
  congr 1
  funext a
  refine Fin.ext ?_
  show gather_S64x100_S64x1x1_S64x1_n_1_0_0_1_2_11.start (ValueIdx.ix2 b u) (places (targets t)) a
    + gather_S64x100_S64x1x1_S64x1_n_1_0_0_1_2_11.batchCoord (ValueIdx.ix2 b u) a
    + gather_S64x100_S64x1x1_S64x1_n_1_0_0_1_2_11.offCoord (ValueIdx.ix2 b u) a = _
  match a with
  | 0 =>
    rw [GatherDims.offCoord_eq_zero _ _ _ (by decide)]
    unfold GatherDims.start
    rw [dif_neg (by decide)]
    simp only [Nat.zero_add, Nat.add_zero]
    rfl
  | 1 =>
    rw [GatherDims.batchCoord_eq_zero _ _ _ (by decide), GatherDims.offCoord_eq_zero _ _ _ (by decide)]
    simp only [Nat.add_zero]
    unfold GatherDims.start
    rw [dif_pos (by decide)]
    have hp := places_apply ht b 0 0
    have := (τ b).isLt
    refine (congrArg (fun w : BitVec 32 => min w.toInt.toNat 99) ((congrArg (places (targets t)) ?_).trans hp)).trans ?_
    · funext d; refine Fin.ext ?_
      match d with
      | ⟨0, _⟩ => rfl
      | ⟨1, _⟩ => exact (by omega : u.val = 0)
      | ⟨2, _⟩ => rfl
    · show min _ 99 = (τ b).val
      rw [word_toInt ht]
      simp; omega

theorem cross_eq (hx : Holds x A) (j : S_.Idx) : cross x t j = ((crossR A τ : ℝ) : EReal) := by
  have e : Host.reduceAdd (looked (logSoftmax x) (places (targets t))) (num 0x00000000#32) reducesTo_S64x1_S_d0_1 h_S_ j
      = ((∑ b, lsm (A b) (τ b) : ℝ) : EReal) := by
    refine (Ideal.hostReduceAdd_total reducesTo_S64x1_S_d0_1 (fun b => b.elim0) _ _ j).trans ?_
    show Ideal.ofBits .f32 0x00000000#32 + _ = _
    rw [Consts.ofBits_zero, zero_add, ValueIdx.sum_idx2, coe_sum]
    refine Finset.sum_congr rfl fun b _ => ?_
    rw [Fin.sum_univ_one]
    show Scalar.select (inside (places (targets t)) (ValueIdx.ix2 b 0))
      (Host.gather gather_S64x100_S64x1x1_S64x1_n_1_0_0_1_2_11 (logSoftmax x) (places (targets t)) (ValueIdx.ix2 b 0)) _ = _
    rw [inside_apply ht, gather_apply ht, logSoftmax_holds hx]
    rfl
  show -(Ideal.div (Host.reduceAdd (F := Ideal) (φ := .f32) _ (num 0x00000000#32) reducesTo_S64x1_S_d0_1 h_S_ j) (Ideal.ofBits .f32 0x42800000#32)) = _
  rw [e, Consts.ofBits_64, div_coe_coe _ (by norm_num), ← EReal.coe_neg]
  unfold crossR
  rw [neg_div]

theorem divergences_eq (hx : Holds x A) (hy : Holds y B) (j : S_.Idx) : divergences x y t j = kdE (crossR A τ) (klR A B) := by
  have step : ∀ (w v : BitVec 32) (k : Fin 5) (kd : FVec Ideal S_ .f32), Ideal.ofBits .f32 v = (((k.val : ℝ) + 1 : ℝ) : EReal) →
      addShare w (cross x t) (divergence (over v x) (over v y)) kd j =
        (kd j + ((klR A B k : ℝ) : EReal) * Ideal.ofBits .f32 w) + ((crossR A τ : ℝ) : EReal) * Ideal.ofBits .f32 0x3E99999A#32 := by
    intro w v k kd hv
    show (kd j + divergence (over v x) (over v y) j * Ideal.ofBits .f32 w) + cross x t j * Ideal.ofBits .f32 0x3E99999A#32 = _
    rw [divergence_eq hx hy hv, cross_eq ht hx]
  show addShare _ _ _ _ j = _
  rw [step _ _ 4 _ (by rw [Consts.ofBits_five]; norm_num), step _ _ 3 _ (by rw [Consts.ofBits_four]; norm_num),
    step _ _ 2 _ (by rw [Consts.ofBits_three]; norm_num), step _ _ 1 _ (by rw [Consts.ofBits_two]; norm_num),
    step _ _ 0 _ (by rw [Consts.ofBits_one]; norm_num)]
  show (((((((((Ideal.ofBits .f32 0x00000000#32 + _) + _) + _) + _) + _) + _) + _) + _) + _ : EReal) + _ = _
  rw [Consts.ofBits_zero]
  rfl

end

end Cert.Ref
-- ==== Proof.RefCube.lean ====
/-
  The reference's stacks of probabilities and what it sums of them.
-/
module

public import proofs.«01_k».proof.Proof.RefRows
public import Idealize.ShloMosaic.Lib.ValueIdxRank1
public import Idealize.ShloMosaic.Lib.MatmulPlain
public import Idealize.ShloMosaic.Lib.Pointwise.Index

@[expose] public section

set_option maxRecDepth 65536

open scoped BigOperators

noncomputable section

namespace Cert.Ref

open Idealize.ShloMosaic Cert.ReferenceIdeal Cert.ReferenceIdeal.Gen

/-- The stack holds the real matrices `P`, one for each temperature. -/
def Holds3 (x : FVec Ideal S64x100x5 .f32) (P : Fin 5 → Mat) : Prop := ∀ b c k, x (ValueIdx.ix3 b c k) = ((P k b c : ℝ) : EReal)

variable {x y : FVec Ideal S64x100x5 .f32} {P Q : Fin 5 → Mat}

theorem temperatures_apply (k : Fin 5) : (temperatures (F := Ideal)) (ValueIdx.ix1 k) = (((k.val : ℝ) + 1 : ℝ) : EReal) := by
  show Ideal.ofBits .f32 0x3F800000#32 + (((BitVec.ofNat 32 k.val).toInt : ℝ) : EReal) = _
  have : (BitVec.ofNat 32 k.val).toInt = (k.val : ℤ) := by fin_cases k <;> rfl
  rw [Consts.ofBits_one, this, ← EReal.coe_add, Int.cast_natCast, add_comm]

theorem stacked_holds {z : FVec Ideal S64x100 .f32} {A : Mat} (hz : Holds z A) : Holds3 (stacked z) fun k b c => A b c / ((k.val : ℝ) + 1) := by
  intro b c k
  have e1 : broadcastInDim S64x100x5 ![0, 1, 2] bcast_S64x100x1_S64x100x5_0_1_2
      (broadcastInDim S64x100x1 ![0, 1] bcast_S64x100_S64x100x1_0_1 z) (ValueIdx.ix3 b c k) = z (ValueIdx.ix2 b c) :=
    (broadcastInDim_apply _ _ _ _ (ValueIdx.ix3 b c 0) fun a => by match a with | ⟨0, _⟩ => rfl | ⟨1, _⟩ => rfl | ⟨2, _⟩ => rfl).trans
      (broadcastInDim_apply _ _ _ _ _ fun a => by match a with | ⟨0, _⟩ => rfl | ⟨1, _⟩ => rfl)
  have e2 : broadcastInDim S64x100x5 ![0, 1, 2] bcast_S1x1x5_S64x100x5_0_1_2
      (broadcastInDim S1x1x5 ![2] bcast_S5_S1x1x5_2 (temperatures (F := Ideal))) (ValueIdx.ix3 b c k) = temperatures (ValueIdx.ix1 k) :=
    (broadcastInDim_apply _ _ _ _ (ValueIdx.ix3 0 0 k) fun a => by match a with | ⟨0, _⟩ => rfl | ⟨1, _⟩ => rfl | ⟨2, _⟩ => rfl).trans
      (broadcastInDim_apply _ _ _ _ _ fun a => by match a with | ⟨0, _⟩ => rfl)
  refine (congrArg₂ Ideal.div e1 e2).trans ?_
  rw [hz, temperatures_apply, div_coe_coe _ (by positivity)]

theorem spread3_apply (y : FVec Ideal S64x5 .f32) (b : Fin 64) (c : Fin 100) (k : Fin 5) :
    spread3 y (ValueIdx.ix3 b c k) = y (ValueIdx.ix2 b k) :=
  (broadcastInDim_apply _ _ _ _ (ValueIdx.ix3 b 0 k) fun a => by match a with | ⟨0, _⟩ => rfl | ⟨1, _⟩ => rfl | ⟨2, _⟩ => rfl).trans
    (broadcastInDim_apply _ _ _ _ _ fun a => by match a with | ⟨0, _⟩ => rfl | ⟨1, _⟩ => rfl)

theorem expCentred3_holds (hx : Holds3 x P) : ∃ m : Fin 5 → Fin 64 → ℝ, Holds3 (expCentred3 x) fun k b c => Real.exp (P k b c - m k b) := by
  have key : ∀ (k : Fin 5) (b : Fin 64), ∃ r : ℝ,
      Host.reduce FloatOps.maximumf x (num 0xFF800000#32) reducesTo_S64x100x5_S64x5_d1 h_S_ (ValueIdx.ix2 b k) = (r : EReal) := by
    intro k b
    have hr : S64x100x5.Reduces [1] S64x5 := by decide
    obtain ⟨r, h⟩ := fold_max_real Finset.univ ⟨(⟨0, by decide⟩ : Fin (S64x100x5.size 1)), Finset.mem_univ _⟩
      (x ∘ hr.lift (ValueIdx.ix2 b k)) fun d => ⟨_, (congrArg x (ValueIdx.eq_ix3 _)).trans (hx _ _ _)⟩
    refine ⟨r, (congrFun (hostReduce_maximumf_eq_multiReduction x 0xFF800000#32 reducesTo_S64x100x5_S64x5_d1 h_S_ hr (.inl rfl) rfl) _).trans
      ((Ideal.multiReduction_maximumf_single (φ := .f32) x 0xFF800000#32 hr (.inl rfl) rfl _).trans ?_)⟩
    rw [show FloatOps.ofBits (F := Ideal) .f32 0xFF800000#32 = (⊥ : EReal) from Consts.ofBits_neg_inf]
    exact h
  choose m hm using key
  refine ⟨m, fun b c k => ?_⟩
  show Ideal.exp (x (ValueIdx.ix3 b c k) - (spread3 (F := Ideal) _ (ValueIdx.ix3 b c k) : EReal)) = _
  rw [spread3_apply]
  show Ideal.exp (x (ValueIdx.ix3 b c k) - max (Ideal.ofBits .f32 0xFF800000#32)
    (Host.reduce FloatOps.maximumf x (num 0xFF800000#32) reducesTo_S64x100x5_S64x5_d1 h_S_ (ValueIdx.ix2 b k))) = _
  rw [hm, hx, Consts.ofBits_neg_inf, max_bot_left, ← EReal.coe_sub, Ideal.exp_coe]

/-- The stack holds the softmax at every temperature. -/
theorem cube_holds {z : FVec Ideal S64x100 .f32} {A : Mat} (hz : Holds z A) : Holds3 (cube z) (tempProbs A) := by
  obtain ⟨m, hm⟩ := expCentred3_holds (stacked_holds hz)
  intro b c k
  have hs : Host.reduceAdd (expCentred3 (stacked z)) (num 0x00000000#32) reducesTo_S64x100x5_S64x5_d1 h_S_ (ValueIdx.ix2 b k) =
      ((∑ d, Real.exp (A b d / ((k.val : ℝ) + 1) - m k b) : ℝ) : EReal) := by
    refine (Ideal.hostReduceAdd_r3_a1 reducesTo_S64x100x5_S64x5_d1 _ _ (ValueIdx.ix2 b k)).trans ?_
    show Ideal.ofBits .f32 0x00000000#32 + _ = _
    rw [Consts.ofBits_zero, zero_add, coe_sum]
    exact Finset.sum_congr rfl fun d _ => hm b d k
  show Ideal.div (expCentred3 (stacked z) (ValueIdx.ix3 b c k)) (spread3 (F := Ideal) _ (ValueIdx.ix3 b c k)) = _
  rw [spread3_apply, hs, hm, div_coe_coe _ (sum_exp_pos fun d => A b d / ((k.val : ℝ) + 1) - m k b).ne',
    softmax_shift fun d => A b d / ((k.val : ℝ) + 1)]
  rfl

/-! ## In one line -/

/-- The place at each position of the line. -/
def line : Fin 32000 ≃ Place :=
  ValueIdx.idxEquiv1.symm.trans ((Shape.reshapeEquiv (s := S64x100x5) (s' := S32000) (by decide)).trans
    ⟨fun f => (f 2, f 0, f 1), fun p => ValueIdx.ix3 p.2.1 p.2.2 p.1, fun f => (ValueIdx.eq_ix3 f).symm, fun _ => rfl⟩)

/-- The entry of a stack at a place. -/
abbrev entry (P : Fin 5 → Mat) (p : Place) : ℝ := P p.1 p.2.1 p.2.2

theorem flat_apply (hx : Holds3 x P) (a : Fin 32000) : flat x (ValueIdx.ix1 a) = ((entry P (line a) : ℝ) : EReal) :=
  (congrArg x (ValueIdx.eq_ix3 _)).trans (hx _ _ _)

theorem dot_eq (hx : Holds3 x P) (hy : Holds3 y Q) (j : S_.Idx) : dot (flat x) (flat y) j = ((dotR P Q : ℝ) : EReal) := by
  refine (Ideal.hostReduceAdd_total reducesTo_S32000_S_d0 (fun b => b.elim0) _ _ j).trans ?_
  show Ideal.ofBits .f32 0x00000000#32 + _ = _
  have e : dotR P Q = ∑ a : Fin 32000, entry P (line a) * entry Q (line a) := by
    rw [Equiv.sum_comp line fun p => entry P p * entry Q p]
    unfold dotR
    simp only [Fintype.sum_prod_type]
  rw [Consts.ofBits_zero, zero_add, e, coe_sum, ← Equiv.sum_comp (ValueIdx.idxEquiv1 (n := 32000)).symm]
  refine Finset.sum_congr rfl fun a _ => ?_
  show flat x (ValueIdx.ix1 a) * flat y (ValueIdx.ix1 a) = _
  rw [flat_apply hx, flat_apply hy, EReal.coe_mul]

theorem products_apply (z : FVec Ideal S32000 .f32) (a b : Fin 32000) :
    products z (ValueIdx.ix2 a b) = (z (ValueIdx.ix1 a) * z (ValueIdx.ix1 b) : EReal) := by
  have e1 : broadcastInDim S32000x32000 ![0, 1] bcast_S32000x1_S32000x32000_0_1 (broadcastInDim S32000x1 ![0] bcast_S32000_S32000x1_0 z)
      (ValueIdx.ix2 a b) = z (ValueIdx.ix1 a) :=
    (broadcastInDim_apply _ _ _ _ (ValueIdx.ix2 a 0) fun d => by match d with | ⟨0, _⟩ => rfl | ⟨1, _⟩ => rfl).trans
      (broadcastInDim_apply _ _ _ _ _ fun d => by match d with | ⟨0, _⟩ => rfl)
  have e2 : broadcastInDim S32000x32000 ![0, 1] bcast_S1x32000_S32000x32000_0_1 (broadcastInDim S1x32000 ![1] bcast_S32000_S1x32000_1 z)
      (ValueIdx.ix2 a b) = z (ValueIdx.ix1 b) :=
    (broadcastInDim_apply _ _ _ _ (ValueIdx.ix2 0 b) fun d => by match d with | ⟨0, _⟩ => rfl | ⟨1, _⟩ => rfl).trans
      (broadcastInDim_apply _ _ _ _ _ fun d => by match d with | ⟨0, _⟩ => rfl)
  exact congrArg₂ (fun p q : EReal => p * q) e1 e2

theorem pairs_eq (hx : Holds3 x P) (hy : Holds3 y Q) (j : S_.Idx) : pairs (flat x) (flat y) j = ((pairsR P Q : ℝ) : EReal) := by
  refine (Ideal.hostReduceAdd_total reducesTo_S32000x32000_S_d0_1 (fun b => b.elim0) _ _ j).trans ?_
  show Ideal.ofBits .f32 0x00000000#32 + _ = _
  have e : pairsR P Q = ∑ a : Fin 32000, ∑ b : Fin 32000,
      |entry P (line a) * entry P (line b) - entry Q (line a) * entry Q (line b)| := by
    rw [Equiv.sum_comp line fun p => ∑ b : Fin 32000, |entry P p * entry P (line b) - entry Q p * entry Q (line b)|]
    unfold pairsR
    refine Finset.sum_congr rfl fun p _ => ?_
    rw [Equiv.sum_comp line fun q => |entry P p * entry P q - entry Q p * entry Q q|]
  rw [Consts.ofBits_zero, zero_add, e, coe_sum, ValueIdx.sum_idx2]
  refine Finset.sum_congr rfl fun a _ => ?_
  rw [coe_sum]
  refine Finset.sum_congr rfl fun b _ => ?_
  show max (products (flat x) (ValueIdx.ix2 a b) - products (flat y) (ValueIdx.ix2 a b) : EReal)
    (-(products (flat x) (ValueIdx.ix2 a b) - products (flat y) (ValueIdx.ix2 a b))) = _
  rw [products_apply, products_apply, flat_apply hx, flat_apply hx, flat_apply hy, flat_apply hy, ← EReal.coe_mul, ← EReal.coe_mul,
    ← EReal.coe_sub, ← EReal.coe_neg, abs_eq_max_neg]
  exact (EReal.coe_strictMono.monotone.map_max).symm

/-! ## Gram matrices -/

theorem rows_dot (hx : Holds3 x P) (k : Fin 5) (i j : Fin 64) :
    Host.dotGeneral dot_S64x100x5_S64x100x5_S5x64x64_1_1_0_0_2_2 none x x (ValueIdx.ix3 k i j) = ((∑ c, P k i c * P k j c : ℝ) : EReal) := by
  refine (Ideal.dotGeneral_apply (φ₁ := .f32) (φ₂ := .f32) dot_S64x100x5_S64x100x5_S5x64x64_1_1_0_0_2_2 none _ x x (ValueIdx.ix3 k i j)).trans ?_
  rw [← Equiv.sum_comp (ValueIdx.contrEquiv1 dot_S64x100x5_S64x100x5_S5x64x64_1_1_0_0_2_2 100 rfl rfl).symm, coe_sum]
  refine Finset.sum_congr rfl fun c _ => ?_
  have hk := ValueIdx.contrEquiv1_symm_val dot_S64x100x5_S64x100x5_S5x64x64_1_1_0_0_2_2 100 rfl rfl c
  have el : dot_S64x100x5_S64x100x5_S5x64x64_1_1_0_0_2_2.lhsIdx (ValueIdx.ix3 k i j)
      ((ValueIdx.contrEquiv1 dot_S64x100x5_S64x100x5_S5x64x64_1_1_0_0_2_2 100 rfl rfl).symm c) = ValueIdx.ix3 i c k := by
    funext a; apply Fin.ext
    match a with
    | ⟨0, _⟩ => rfl
    | ⟨1, _⟩ => exact hk
    | ⟨2, _⟩ => rfl
  have er : dot_S64x100x5_S64x100x5_S5x64x64_1_1_0_0_2_2.rhsIdx (ValueIdx.ix3 k i j)
      ((ValueIdx.contrEquiv1 dot_S64x100x5_S64x100x5_S5x64x64_1_1_0_0_2_2 100 rfl rfl).symm c) = ValueIdx.ix3 j c k := by
    funext a; apply Fin.ext
    match a with
    | ⟨0, _⟩ => rfl
    | ⟨1, _⟩ => exact hk
    | ⟨2, _⟩ => rfl
  rw [el, er, hx, hx, EReal.coe_mul]

theorem columns_dot (hx : Holds3 x P) (k : Fin 5) (i j : Fin 100) :
    Host.dotGeneral dot_S64x100x5_S64x100x5_S5x100x100_0_0_1_1_2_2 none x x (ValueIdx.ix3 k i j) = ((∑ b, P k b i * P k b j : ℝ) : EReal) := by
  refine (Ideal.dotGeneral_apply (φ₁ := .f32) (φ₂ := .f32) dot_S64x100x5_S64x100x5_S5x100x100_0_0_1_1_2_2 none _ x x (ValueIdx.ix3 k i j)).trans ?_
  rw [← Equiv.sum_comp (ValueIdx.contrEquiv1 dot_S64x100x5_S64x100x5_S5x100x100_0_0_1_1_2_2 64 rfl rfl).symm, coe_sum]
  refine Finset.sum_congr rfl fun c _ => ?_
  have hk := ValueIdx.contrEquiv1_symm_val dot_S64x100x5_S64x100x5_S5x100x100_0_0_1_1_2_2 64 rfl rfl c
  have el : dot_S64x100x5_S64x100x5_S5x100x100_0_0_1_1_2_2.lhsIdx (ValueIdx.ix3 k i j)
      ((ValueIdx.contrEquiv1 dot_S64x100x5_S64x100x5_S5x100x100_0_0_1_1_2_2 64 rfl rfl).symm c) = ValueIdx.ix3 c i k := by
    funext a; apply Fin.ext
    match a with
    | ⟨0, _⟩ => exact hk
    | ⟨1, _⟩ => rfl
    | ⟨2, _⟩ => rfl
  have er : dot_S64x100x5_S64x100x5_S5x100x100_0_0_1_1_2_2.rhsIdx (ValueIdx.ix3 k i j)
      ((ValueIdx.contrEquiv1 dot_S64x100x5_S64x100x5_S5x100x100_0_0_1_1_2_2 64 rfl rfl).symm c) = ValueIdx.ix3 c j k := by
    funext a; apply Fin.ext
    match a with
    | ⟨0, _⟩ => exact hk
    | ⟨1, _⟩ => rfl
    | ⟨2, _⟩ => rfl
  rw [el, er, hx, hx, EReal.coe_mul]

/-- A sum over three axes of real entries. -/
theorem sum3 {n m l : ℕ} (z : (⟨3, ![n, m, l]⟩ : Shape).Idx → EReal) (G : Fin n → Fin m → Fin l → ℝ)
    (hz : ∀ k i j, z (ValueIdx.ix3 k i j) = ((G k i j : ℝ) : EReal)) : ∑ i, z i = ((∑ k, ∑ i, ∑ j, G k i j : ℝ) : EReal) := by
  rw [sum_idx3, coe_sum]
  refine Finset.sum_congr rfl fun k _ => ?_
  rw [coe_sum]
  refine Finset.sum_congr rfl fun i _ => ?_
  rw [coe_sum]
  exact Finset.sum_congr rfl fun j _ => hz k i j

theorem grams_eq (hx : Holds3 x P) (hy : Holds3 y Q) (j : S_.Idx) : grams x y j = ((gramsR P Q : ℝ) : EReal) := by
  have h1 : Host.reduceAdd (mulf (gramRows x y) (gramRows x y)) (num 0x00000000#32) reducesTo_S5x64x64_S_d0_1_2 h_S_ j =
      ((∑ k, squaresRowsR (P k) (Q k) : ℝ) : EReal) := by
    refine (Ideal.hostReduceAdd_total reducesTo_S5x64x64_S_d0_1_2 (fun b => b.elim0) _ _ j).trans ?_
    show Ideal.ofBits .f32 0x00000000#32 + _ = _
    rw [Consts.ofBits_zero, zero_add]
    refine sum3 (mulf (gramRows x y) (gramRows x y)) (fun k i j => gramRowsR (P k) (Q k) i j * gramRowsR (P k) (Q k) i j) fun k i j => ?_
    have e : gramRows x y (ValueIdx.ix3 k i j) = ((gramRowsR (P k) (Q k) i j : ℝ) : EReal) := by
      show (Host.dotGeneral dot_S64x100x5_S64x100x5_S5x64x64_1_1_0_0_2_2 none x x (ValueIdx.ix3 k i j) : EReal) -
        Host.dotGeneral dot_S64x100x5_S64x100x5_S5x64x64_1_1_0_0_2_2 none y y (ValueIdx.ix3 k i j) = _
      rw [rows_dot hx, rows_dot hy]; exact (EReal.coe_sub _ _).symm
    show gramRows x y (ValueIdx.ix3 k i j) * gramRows x y (ValueIdx.ix3 k i j) = _
    rw [e, EReal.coe_mul]
  have h2 : Host.reduceAdd (mulf (gramColumns x y) (gramColumns x y)) (num 0x00000000#32) reducesTo_S5x100x100_S_d0_1_2 h_S_ j =
      ((∑ k, squaresColumnsR (P k) (Q k) : ℝ) : EReal) := by
    refine (Ideal.hostReduceAdd_total reducesTo_S5x100x100_S_d0_1_2 (fun b => b.elim0) _ _ j).trans ?_
    show Ideal.ofBits .f32 0x00000000#32 + _ = _
    rw [Consts.ofBits_zero, zero_add]
    refine sum3 (mulf (gramColumns x y) (gramColumns x y)) (fun k i j => gramColumnsR (P k) (Q k) i j * gramColumnsR (P k) (Q k) i j) fun k i j => ?_
    have e : gramColumns x y (ValueIdx.ix3 k i j) = ((gramColumnsR (P k) (Q k) i j : ℝ) : EReal) := by
      show (Host.dotGeneral dot_S64x100x5_S64x100x5_S5x100x100_0_0_1_1_2_2 none x x (ValueIdx.ix3 k i j) : EReal) -
        Host.dotGeneral dot_S64x100x5_S64x100x5_S5x100x100_0_0_1_1_2_2 none y y (ValueIdx.ix3 k i j) = _
      rw [columns_dot hx, columns_dot hy]; exact (EReal.coe_sub _ _).symm
    show gramColumns x y (ValueIdx.ix3 k i j) * gramColumns x y (ValueIdx.ix3 k i j) = _
    rw [e, EReal.coe_mul]
  show Ideal.ofBits .f32 0x3F800000#32 * Host.reduceAdd (F := Ideal) (φ := .f32) _ (num 0x00000000#32) reducesTo_S5x64x64_S_d0_1_2 h_S_ j +
    Ideal.ofBits .f32 0x3F800000#32 * Host.reduceAdd (F := Ideal) (φ := .f32) _ (num 0x00000000#32) reducesTo_S5x100x100_S_d0_1_2 h_S_ j = _
  rw [h1, h2, Consts.ofBits_one, EReal.coe_one, one_mul, one_mul, ← EReal.coe_add, ← Finset.sum_add_distrib]
  rfl

/-- The reference's result, of real logits and target classes. -/
theorem loss_eq {u v : FVec Ideal S64x100 .f32} {A T : Mat} (hu : Holds u A) (hv : Holds v T) {t : IVec S64 32} {τ : Fin 64 → Fin 100}
    (ht : ∀ b, t (ValueIdx.ix1 b) = BitVec.ofNat 32 (τ b).val) (j : S_.Idx) : loss u v t j = lossE A T τ := by
  have ha := cube_holds hu
  have hb := cube_holds hv
  show ((divergences u v t j + Ideal.ofBits .f32 0x3983126F#32 * pairs (flat (cube v)) (flat (cube u)) j)
      + squaredDots (dot (flat (cube v)) (flat (cube v))) (dot (flat (cube u)) (flat (cube u))) (dot (flat (cube v)) (flat (cube u))) j)
    + grams (cube v) (cube u) j = _
  have e : squaredDots (dot (flat (cube v)) (flat (cube v))) (dot (flat (cube u)) (flat (cube u))) (dot (flat (cube v)) (flat (cube u))) j =
      l2E (dotR (tempProbs T) (tempProbs T)) (dotR (tempProbs A) (tempProbs A)) (dotR (tempProbs T) (tempProbs A)) := by
    show Ideal.ofBits .f32 0x3983126F#32 * ((dot (flat (cube v)) (flat (cube v)) j * dot (flat (cube v)) (flat (cube v)) j -
      Ideal.ofBits .f32 0x40000000#32 * dot (flat (cube v)) (flat (cube u)) j * dot (flat (cube v)) (flat (cube u)) j) +
      dot (flat (cube u)) (flat (cube u)) j * dot (flat (cube u)) (flat (cube u)) j) = _
    rw [dot_eq hb hb, dot_eq hb ha, dot_eq ha ha]
    rfl
  rw [divergences_eq ht hu hv, pairs_eq hb ha, e, grams_eq hb ha]
  unfold lossE partE
  rw [add_right_comm, add_right_comm _ _ (((gramsR (tempProbs T) (tempProbs A) : ℝ) : EReal)), add_right_comm,
    add_right_comm (kdE _ _)]

end Cert.Ref
-- ==== Proof.Precondition.lean ====
/-
  What the precondition says: the logits are real numbers and the targets are classes.
-/
module

public import proofs.«01_k».proof.Pre_real_logits_and_classes
public import proofs.«01_k».proof.Proof.Loss
public import Idealize.ShloMosaic.Lib.Pipeline.Value
public import Idealize.ShloMosaic.Lib.ValueIdxCore

@[expose] public section

noncomputable section

namespace Cert.Pre_real_logits_and_classes

open Idealize.ShloMosaic

/-- The shape relations the predicate states. -/
theorem facts : Facts := ⟨by decide, by decide⟩

variable [Facts]

/-- A number above minus infinity and below infinity is a real. -/
theorem real_of_between {x : EReal}
    (h : IntOp.andi (Ideal.cmp .ogt x (Ideal.ofBits .f32 0xFF800000#32)) (Ideal.cmp .olt x (Ideal.ofBits .f32 0x7F800000#32)) = 1#1) :
    ∃ r : ℝ, x = (r : EReal) := by
  have htop : Ideal.ofBits .f32 0x7F800000#32 = ⊤ := by simp [Ideal.ofBits, Ideal.ieee]
  rw [Consts.ofBits_neg_inf, htop] at h
  induction x using EReal.rec with
  | bot => simp [Ideal.cmp, IntOp.andi] at h
  | coe r => exact ⟨r, rfl⟩
  | top => simp [Ideal.cmp, IntOp.andi] at h

/-- A word of at least zero and below one hundred is a class. -/
theorem class_of_between {t : BitVec 32} (h : IntOp.andi (IntOp.cmpi .sge t 0#32) (IntOp.cmpi .slt t 100#32) = 1#1) :
    ∃ k : Fin 100, t = BitVec.ofNat 32 k.val := by
  have h1 : (0#32).sle t = true ∧ t.slt 100#32 = true := by
    revert h
    show BitVec.ofBool ((0#32).sle t) &&& BitVec.ofBool (t.slt 100#32) = 1#1 → _
    cases (0#32).sle t <;> cases t.slt 100#32 <;> simp
  obtain ⟨ha, hb⟩ := h1
  have ha' : (0 : ℤ) ≤ t.toInt := by simpa [BitVec.sle] using ha
  have hb' : t.toInt < 100 := by simpa [BitVec.slt] using hb
  have hn : t.toNat < 100 := by
    have := t.isLt
    rw [BitVec.toInt_eq_toNat_cond] at ha' hb'
    split at ha' <;> omega
  exact ⟨⟨t.toNat, hn⟩, by simp⟩

/-- The three arrays as real matrices and classes. -/
theorem arrays (x y : FVec Ideal S64x100 .f32) (t : IVec S64 32) (hx : (fn (F := Ideal) x y t).1 = fun _ => 1#1)
    (hy : (fn (F := Ideal) x y t).2.1 = fun _ => 1#1) (ht : (fn (F := Ideal) x y t).2.2 = fun _ => 1#1) :
    ∃ (A T : Mat) (classes : Fin 64 → Fin 100), (∀ i j, x (ValueIdx.ix2 i j) = ((A i j : ℝ) : EReal))
      ∧ (∀ i j, y (ValueIdx.ix2 i j) = ((T i j : ℝ) : EReal))
      ∧ ∀ b, t (ValueIdx.ix1 b) = BitVec.ofNat 32 (classes b).val := by
  have hA : ∀ i j, ∃ r : ℝ, x (ValueIdx.ix2 i j) = (r : EReal) := fun i j => real_of_between (congrFun hx (ValueIdx.ix2 i j))
  have hT : ∀ i j, ∃ r : ℝ, y (ValueIdx.ix2 i j) = (r : EReal) := fun i j => real_of_between (congrFun hy (ValueIdx.ix2 i j))
  have hC : ∀ b, ∃ k : Fin 100, t (ValueIdx.ix1 b) = BitVec.ofNat 32 k.val := fun b => class_of_between (congrFun ht (ValueIdx.ix1 b))
  choose A hA using hA
  choose T hT using hT
  choose k hk using hC
  exact ⟨A, T, k, hA, hT, hk⟩

end Cert.Pre_real_logits_and_classes
-- ==== Proof.lean ====
/-
  The certificate's claim: the frames of the kernel and of the reference, the kernel's two named constants, and the equality
  of the kernel's loss with the reference's on the extended reals, for real logits and target classes. Each program's result
  is shown to be the same loss `lossE` of the two real matrices and the classes (`result_loss`, `Cert.Ref.loss_eq`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.RefCube
public import proofs.«01_k».proof.Proof.Precondition
public import Idealize.ShloMosaic.Adequacy
public import Idealize.ShloMosaic.Init

@[expose] public section

noncomputable section

namespace Cert.Proof

open Idealize.ShloMosaic Idealize.SL.Sem Cert.Kernel

/-- The kernel's frame on the machine's own arithmetic. -/
theorem frame_p : Cert.quiescent_Kernel := fun m ρ _ => Cert.Kernel.Gen.frame m ρ

/-- The kernel's frame on the extended reals. -/
theorem frame_pi : Cert.quiescent_KernelIdeal := fun m ρ _ => Cert.KernelIdeal.Gen.frame m ρ

/-- The reference's frame: the last conjuncts of its run; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants are a third and a fifth. -/
theorem preserves : Cert.preserves_Kernel_KernelIdeal :=
  ⟨IdealRules.named_const.statement Cert.KernelIdeal.κ "third" .f32 0x3EAAAAAB#32 ((3⁻¹ : ℝ) : EReal) rfl,
   IdealRules.named_const.statement Cert.KernelIdeal.κ "fifth" .f32 0x3E4CCCCD#32 ((5⁻¹ : ℝ) : EReal) rfl⟩

/-- The kernel's frame from memories that meet the precondition. -/
theorem frame_pi_pre [hPre_real_logits_and_classes : Cert.Pre_real_logits_and_classes.Facts] : Cert.quiescent_KernelIdeal_pre_real_logits_and_classes :=
  fun m ρ _ => frame_pi m ρ trivial

/-- The reference's frame from memories that meet it. -/
theorem frame_ri_pre [hPre_real_logits_and_classes : Cert.Pre_real_logits_and_classes.Facts] : Cert.quiescent_ReferenceIdeal_pre_real_logits_and_classes :=
  fun m ρ _ => frame_ri m ρ trivial

/-- Both programs end with the same loss. -/
theorem algebraic [hPre_real_logits_and_classes : Cert.Pre_real_logits_and_classes.Facts] :
    Cert.algebraic_KernelIdeal_ReferenceIdeal_pre_real_logits_and_classes := by
  intro m ρ m' ρ' hpre hagree
  choose A T classes hA hT hC using fun c => Cert.Pre_real_logits_and_classes.arrays _ _ _ (hpre c).1 (hpre c).2.1 (hpre c).2.2
  refine ⟨fun c _ => Cert.lossE (A c) (T c) (classes c), ?_, ?_⟩
  · refine (θ_run Cert.KernelIdeal.defs _ _).mono (fun r h c => ⟨(h c).1.trans ?_, (h c).2⟩) (Cert.KernelIdeal.Gen.run_value m ρ)
    exact Cert.KernelIdeal.Gen.result_loss m ρ c (hA c) (hT c) (hC c)
  · refine (θ_run Cert.ReferenceIdeal.defs _ _).mono (fun r h c => ⟨(h c).1.trans ?_, (h c).2⟩)
      (Cert.ReferenceIdeal.Value.run (F := Ideal) m' ρ')
    obtain ⟨e0, e1, e2⟩ := hagree c
    rw [Cert.Ref.result_eq]
    funext j
    exact Cert.Ref.loss_eq (fun i k => (congrFun e0 _).trans (hA c i k)) (fun i k => (congrFun e1 _).trans (hT c i k))
      (fun b => (congrFun e2 _).trans (hC c b)) j

theorem claim : Cert.Claim := ⟨Cert.Kernel.Gen.facts, Cert.KernelIdeal.Gen.facts, Cert.ReferenceIdeal.Gen.facts,
  Cert.Pre_real_logits_and_classes.facts, frame_p, frame_pi,
  frame_pi_pre (hPre_real_logits_and_classes := Cert.Pre_real_logits_and_classes.facts), frame_ri,
  frame_ri_pre (hPre_real_logits_and_classes := Cert.Pre_real_logits_and_classes.facts), preserves,
  algebraic (hPre_real_logits_and_classes := Cert.Pre_real_logits_and_classes.facts)⟩

end Cert.Proof

end
